-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x101x1024 : Shape := ⟨4, ![4, 512, 101, 1024]⟩
abbrev S4x100 : Shape := ⟨2, ![4, 100]⟩
abbrev S4 : Shape := ⟨1, ![4]⟩
abbrev S_ : Shape := ⟨0, ![]⟩
abbrev S4x1 : Shape := ⟨2, ![4, 1]⟩
abbrev S4x101 : Shape := ⟨2, ![4, 101]⟩
abbrev S4x101x1 : Shape := ⟨3, ![4, 101, 1]⟩
abbrev S4x1x128 : Shape := ⟨3, ![4, 1, 128]⟩
abbrev S1x16x101x1024 : Shape := ⟨4, ![1, 16, 101, 1024]⟩
abbrev S1x101x1 : Shape := ⟨3, ![1, 101, 1]⟩
abbrev S1x1x128 : Shape := ⟨3, ![1, 1, 128]⟩
abbrev S1x128 : Shape := ⟨2, ![1, 128]⟩
abbrev S16x101x1024 : Shape := ⟨3, ![16, 101, 1024]⟩
abbrev S101x1 : Shape := ⟨2, ![101, 1]⟩
abbrev S101x1024 : Shape := ⟨2, ![101, 1024]⟩
abbrev S1x101x1024 : Shape := ⟨3, ![1, 101, 1024]⟩
abbrev S16x101 : Shape := ⟨2, ![16, 101]⟩
abbrev S16x27 : Shape := ⟨2, ![16, 27]⟩
abbrev S16x128 : Shape := ⟨2, ![16, 128]⟩
abbrev S1 : Shape := ⟨1, ![1]⟩
abbrev S1x1 : Shape := ⟨2, ![1, 1]⟩
abbrev S1x127 : Shape := ⟨2, ![1, 127]⟩
abbrev S1x2 : Shape := ⟨2, ![1, 2]⟩
abbrev S1x126 : Shape := ⟨2, ![1, 126]⟩
abbrev S1x4 : Shape := ⟨2, ![1, 4]⟩
abbrev S1x124 : Shape := ⟨2, ![1, 124]⟩
abbrev S1x8 : Shape := ⟨2, ![1, 8]⟩
abbrev S1x120 : Shape := ⟨2, ![1, 120]⟩
abbrev S1x16 : Shape := ⟨2, ![1, 16]⟩
abbrev S1x112 : Shape := ⟨2, ![1, 112]⟩
abbrev S1x32 : Shape := ⟨2, ![1, 32]⟩
abbrev S1x96 : Shape := ⟨2, ![1, 96]⟩
abbrev S1x64 : Shape := ⟨2, ![1, 64]⟩

abbrev nBuf : Space → Nat
  | .hbm => 42
  | .vmem => 8
  | .smem => 2
  | _ => 0

abbrev bufTy : (tb : Table) → Fin (tcTables nBuf tb) → BufTy
  | .hbm, ⟨0, _⟩ => ⟨S4x512x101x1024, .f32⟩
  | .hbm, ⟨1, _⟩ => ⟨S4x100, .i32⟩
  | .hbm, ⟨2, _⟩ => ⟨S4, .i32⟩
  | .hbm, ⟨3, _⟩ => ⟨S4, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S_, .i32⟩
  | .hbm, ⟨13, _⟩ => ⟨S4, .i32⟩
  | .hbm, ⟨14, _⟩ => ⟨S4, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S4, .i32⟩
  | .hbm, ⟨19, _⟩ => ⟨S4, .i32⟩
  | .hbm, ⟨20, _⟩ => ⟨S_, .i32⟩
  | .hbm, ⟨21, _⟩ => ⟨S4, .i32⟩
  | .hbm, ⟨22, _⟩ => ⟨S4, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S4x100, .i32⟩
  | .hbm, ⟨27, _⟩ => ⟨S4x100, .i32⟩
  | .hbm, ⟨28, _⟩ => ⟨S_, .i32⟩
  | .hbm, ⟨29, _⟩ => ⟨S4x100, .i32⟩
  | .hbm, ⟨30, _⟩ => ⟨S4x100, .i32⟩
  | .hbm, ⟨31, _⟩ => ⟨S_, .i32⟩
  | .hbm, ⟨32, _⟩ => ⟨S4x1, .i32⟩
  | .hbm, ⟨33, _⟩ => ⟨S4x101, .i32⟩
  | .hbm, ⟨34, _⟩ => ⟨S4x101x1, .i32⟩
  | .hbm, ⟨35, _⟩ => ⟨S4x1x128, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1, .f32⟩
  | .local _ .vmem, ⟨0, _⟩ => ⟨S1x16x101x1024, .f32⟩
  | .local _ .vmem, ⟨1, _⟩ => ⟨S1x16x101x1024, .f32⟩
  | .local _ .vmem, ⟨2, _⟩ => ⟨S1x101x1, .i32⟩
  | .local _ .vmem, ⟨3, _⟩ => ⟨S1x101x1, .i32⟩
  | .local _ .vmem, ⟨4, _⟩ => ⟨S1x1x128, .f32⟩
  | .local _ .vmem, ⟨5, _⟩ => ⟨S1x1x128, .f32⟩
  | .local _ .vmem, ⟨6, _⟩ => ⟨S1x128, .f32⟩
  | .local _ .vmem, ⟨7, _⟩ => ⟨S1x128, .f32⟩
  | .local _ .smem, ⟨0, _⟩ => ⟨S4, .i32⟩
  | .local _ .smem, ⟨1, _⟩ => ⟨S4, .i32⟩
  | _, _ => ⟨S4x512x101x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c_1 : Ref sig .tc := ⟨.hbm, 12, rfl⟩
abbrev main_v1 : Ref sig .tc := ⟨.hbm, 13, rfl⟩
abbrev main_v2 : Ref sig .tc := ⟨.hbm, 14, rfl⟩
abbrev main_c_2 : Ref sig .tc := ⟨.hbm, 15, rfl⟩
abbrev main_c_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v3 : Ref sig .tc := ⟨.hbm, 22, rfl⟩
abbrev main_c_4 : Ref sig .tc := ⟨.hbm, 23, rfl⟩
abbrev main_c_5 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v4 : Ref sig .tc := ⟨.hbm, 30, rfl⟩
abbrev main_c_6 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst : Ref sig .tc := ⟨.hbm, 36, rfl⟩
abbrev main_v9 : Ref sig .tc := ⟨.hbm, 37, rfl⟩
abbrev main_v10 : Ref sig .tc := ⟨.hbm, 38, rfl⟩
abbrev main_cst_7 : Ref sig .tc := ⟨.hbm, 39, rfl⟩
abbrev main_v11 : Ref sig .tc := ⟨.hbm, 40, rfl⟩
abbrev main_v12 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 32], ![false, false]⟩

def k0_off1 (i : grid0.Coords) : Fin 1 → Nat :=
  let arg0 : BitVec 32 := BitVec.ofNat 32 (i 0).val
  let v26 : Index := Scalar.indexCast arg0
  ![v26.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x101x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x101x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .smem S4 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S4 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4x512x101x1024 : Shape := ⟨4, ![4, 512, 101, 1024]⟩
abbrev S4x100 : Shape := ⟨2, ![4, 100]⟩
abbrev S4 : Shape := ⟨1, ![4]⟩
abbrev S_ : Shape := ⟨0, ![]⟩
abbrev S4x512x101x1 : Shape := ⟨4, ![4, 512, 101, 1]⟩
abbrev S4x512x101 : Shape := ⟨3, ![4, 512, 101]⟩
abbrev S4x512x100x1024 : Shape := ⟨4, ![4, 512, 100, 1024]⟩
abbrev S4x1x100x1 : Shape := ⟨4, ![4, 1, 100, 1]⟩
abbrev S4x100x1x1 : Shape := ⟨4, ![4, 100, 1, 1]⟩
abbrev S1 : Shape := ⟨1, ![1]⟩
abbrev S1x1x1x1 : Shape := ⟨4, ![1, 1, 1, 1]⟩
abbrev S4x100x1 : Shape := ⟨3, ![4, 100, 1]⟩
abbrev S4x512x100x1 : Shape := ⟨4, ![4, 512, 100, 1]⟩
abbrev S4x512x100 : Shape := ⟨3, ![4, 512, 100]⟩
abbrev S4x1 : Shape := ⟨2, ![4, 1]⟩
abbrev S4x1x100 : Shape := ⟨3, ![4, 1, 100]⟩
abbrev S4x101 : Shape := ⟨2, ![4, 101]⟩
abbrev S4x511x101 : Shape := ⟨3, ![4, 511, 101]⟩
abbrev S511x4x101 : Shape := ⟨3, ![511, 4, 101]⟩
abbrev S4x511x100 : Shape := ⟨3, ![4, 511, 100]⟩
abbrev S511x4x100 : Shape := ⟨3, ![511, 4, 100]⟩
abbrev S1x4x101 : Shape := ⟨3, ![1, 4, 101]⟩
abbrev S1x4x100 : Shape := ⟨3, ![1, 4, 100]⟩
abbrev S512x4x101 : Shape := ⟨3, ![512, 4, 101]⟩
abbrev S4x3 : Shape := ⟨2, ![4, 3]⟩

abbrev nBuf : Space → Nat
  | .hbm => 143
  | .vmem => 0
  | .smem => 0
  | _ => 0

abbrev hbmTy0_0 (i : Nat) : BufTy := match i % 128 with
  | 0 => ⟨S4x512x101x1024, .f32⟩
  | 1 => ⟨S4x100, .i32⟩
  | 2 => ⟨S4, .i32⟩
  | 3 => ⟨S4, .i32⟩
  | 4 => ⟨S_, .i32⟩
  | 5 => ⟨S_, .i32⟩
  | 6 => ⟨S_, .i32⟩
  | 7 => ⟨S4, .i32⟩
  | 8 => ⟨S4, .i32⟩
  | 9 => ⟨S_, .i32⟩
  | 10 => ⟨S4, .i32⟩
  | 11 => ⟨S4, .i32⟩
  | 12 => ⟨S_, .i32⟩
  | 13 => ⟨S_, .i32⟩
  | 14 => ⟨S_, .i32⟩
  | 15 => ⟨S4, .i32⟩
  | 16 => ⟨S4, .i32⟩
  | 17 => ⟨S_, .i32⟩
  | 18 => ⟨S4, .i32⟩
  | 19 => ⟨S4, .i32⟩
  | 20 => ⟨S_, .i32⟩
  | 21 => ⟨S_, .i32⟩
  | 22 => ⟨S_, .i32⟩
  | 23 => ⟨S4x100, .i32⟩
  | 24 => ⟨S4x100, .i32⟩
  | 25 => ⟨S_, .i32⟩
  | 26 => ⟨S4x100, .i32⟩
  | 27 => ⟨S4x100, .i32⟩
  | 28 => ⟨S4x512x101x1, .f32⟩
  | 29 => ⟨S4x512x101, .f32⟩
  | 30 => ⟨S4x512x100x1024, .f32⟩
  | 31 => ⟨S4x1x100x1, .i32⟩
  | 32 => ⟨S_, .i32⟩
  | 33 => ⟨S4x1x100x1, .i32⟩
  | 34 => ⟨S4x1x100x1, .i1⟩
  | 35 => ⟨S_, .i32⟩
  | 36 => ⟨S4x1x100x1, .i32⟩
  | 37 => ⟨S4x1x100x1, .i32⟩
  | 38 => ⟨S4x1x100x1, .i32⟩
  | 39 => ⟨S4x100x1x1, .i32⟩
  | 40 => ⟨S1, .i32⟩
  | 41 => ⟨S_, .i32⟩
  | 42 => ⟨S4x100x1x1, .i32⟩
  | 43 => ⟨S4x100x1x1, .i1⟩
  | 44 => ⟨S1x1x1x1, .i32⟩
  | 45 => ⟨S4x100x1x1, .i32⟩
  | 46 => ⟨S4x100x1x1, .i1⟩
  | 47 => ⟨S4x100x1x1, .i1⟩
  | 48 => ⟨S_, .i1⟩
  | 49 => ⟨S4x100x1, .i1⟩
  | 50 => ⟨S4x512x100x1, .f32⟩
  | 51 => ⟨S4x512x100x1, .i1⟩
  | 52 => ⟨S_, .f32⟩
  | 53 => ⟨S4x512x100x1, .f32⟩
  | 54 => ⟨S4x512x100x1, .f32⟩
  | 55 => ⟨S4x512x100, .f32⟩
  | 56 => ⟨S_, .f32⟩
  | 57 => ⟨S4x1, .f32⟩
  | 58 => ⟨S4x1x100, .f32⟩
  | 59 => ⟨S4x100, .f32⟩
  | 60 => ⟨S_, .f32⟩
  | 61 => ⟨S_, .f32⟩
  | 62 => ⟨S4x100, .f32⟩
  | 63 => ⟨S4x101, .f32⟩
  | 64 => ⟨S4x511x101, .f32⟩
  | 65 => ⟨S511x4x101, .f32⟩
  | 66 => ⟨S4x511x100, .f32⟩
  | 67 => ⟨S511x4x100, .f32⟩
  | 68 => ⟨S_, .f32⟩
  | 69 => ⟨S511x4x101, .f32⟩
  | 70 => ⟨S_, .i32⟩
  | 71 => ⟨S511x4x101, .f32⟩
  | 72 => ⟨S511x4x100, .f32⟩
  | 73 => ⟨S4x1, .f32⟩
  | 74 => ⟨S_, .i32⟩
  | 75 => ⟨S4x101, .f32⟩
  | 76 => ⟨S511x4x101, .f32⟩
  | 77 => ⟨S_, .i32⟩
  | 78 => ⟨S_, .i1⟩
  | 79 => ⟨S_, .i32⟩
  | 80 => ⟨S_, .i32⟩
  | 81 => ⟨S1x4x101, .f32⟩
  | 82 => ⟨S4x101, .f32⟩
  | 83 => ⟨S_, .i32⟩
  | 84 => ⟨S_, .i32⟩
  | 85 => ⟨S1x4x100, .f32⟩
  | 86 => ⟨S4x100, .f32⟩
  | 87 => ⟨S4x101, .f32⟩
  | 88 => ⟨S_, .f32⟩
  | 89 => ⟨S_, .f32⟩
  | 90 => ⟨S4x100, .f32⟩
  | 91 => ⟨S4x101, .f32⟩
  | 92 => ⟨S4x101, .f32⟩
  | 93 => ⟨S4x101, .f32⟩
  | 94 => ⟨S_, .f32⟩
  | 95 => ⟨S_, .f32⟩
  | 96 => ⟨S4x101, .f32⟩
  | 97 => ⟨S4x101, .f32⟩
  | 98 => ⟨S4x101, .f32⟩
  | 99 => ⟨S1x4x101, .f32⟩
  | 100 => ⟨S_, .i32⟩
  | 101 => ⟨S_, .i32⟩
  | 102 => ⟨S511x4x101, .f32⟩
  | 103 => ⟨S_, .i32⟩
  | 104 => ⟨S_, .i32⟩
  | 105 => ⟨S1x4x101, .f32⟩
  | 106 => ⟨S512x4x101, .f32⟩
  | 107 => ⟨S_, .i32⟩
  | 108 => ⟨S4, .i32⟩
  | 109 => ⟨S4, .i32⟩
  | 110 => ⟨S4, .i32⟩
  | 111 => ⟨S_, .i32⟩
  | 112 => ⟨S4, .i32⟩
  | 113 => ⟨S4, .i1⟩
  | 114 => ⟨S_, .i32⟩
  | 115 => ⟨S4, .i32⟩
  | 116 => ⟨S4, .i32⟩
  | 117 => ⟨S4, .i32⟩
  | 118 => ⟨S_, .i32⟩
  | 119 => ⟨S4, .i32⟩
  | 120 => ⟨S4, .i1⟩
  | 121 => ⟨S_, .i32⟩
  | 122 => ⟨S4, .i32⟩
  | 123 => ⟨S4, .i32⟩
  | 124 => ⟨S4, .i32⟩
  | 125 => ⟨S_, .i32⟩
  | 126 => ⟨S4, .i32⟩
  | 127 => ⟨S4, .i1⟩
  | _ => ⟨S4x512x101x1024, .f32⟩

abbrev hbmTy0_1 (i : Nat) : BufTy := match i % 128 with
  | 0 => ⟨S_, .i32⟩
  | 1 => ⟨S4, .i32⟩
  | 2 => ⟨S4, .i32⟩
  | 3 => ⟨S4, .i32⟩
  | 4 => ⟨S4x1, .i32⟩
  | 5 => ⟨S4x1, .i32⟩
  | 6 => ⟨S4x1, .i32⟩
  | 7 => ⟨S4x3, .i32⟩
  | 8 => ⟨S4, .f32⟩
  | 9 => ⟨S_, .f32⟩
  | 10 => ⟨S_, .f32⟩
  | 11 => ⟨S_, .f32⟩
  | 12 => ⟨S_, .f32⟩
  | 13 => ⟨S_, .f32⟩
  | 14 => ⟨S1, .f32⟩
  | _ => ⟨S4x512x101x1024, .f32⟩

abbrev hbmTy (i : Nat) : BufTy := match i / 128 with
  | 0 => hbmTy0_0 i
  | 1 => hbmTy0_1 i
  | _ => ⟨S4x512x101x1024, .f32⟩

abbrev bufTy : (tb : Table) → Fin (tcTables nBuf tb) → BufTy
  | .hbm, ⟨i, _⟩ => hbmTy i
  | _, _ => ⟨S4x512x101x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c_1 : Ref sig .tc := ⟨.hbm, 12, rfl⟩
abbrev main_c_2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v1 : Ref sig .tc := ⟨.hbm, 19, rfl⟩
abbrev main_c_3 : Ref sig .tc := ⟨.hbm, 20, rfl⟩
abbrev main_c_4 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_call3_c : Ref sig .tc := ⟨.hbm, 32, rfl⟩
abbrev main_call3_v0 : Ref sig .tc := ⟨.hbm, 33, rfl⟩
abbrev main_call3_v1 : Ref sig .tc := ⟨.hbm, 34, rfl⟩
abbrev main_call3_c_0 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_c_1 : Ref sig .tc := ⟨.hbm, 40, rfl⟩
abbrev main_call3_c_2 : Ref sig .tc := ⟨.hbm, 41, rfl⟩
abbrev main_call3_v6 : Ref sig .tc := ⟨.hbm, 42, rfl⟩
abbrev main_call3_v7 : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_v11 : Ref sig .tc := ⟨.hbm, 47, rfl⟩
abbrev main_call3_c_3 : Ref sig .tc := ⟨.hbm, 48, rfl⟩
abbrev main_call3_v12 : Ref sig .tc := ⟨.hbm, 49, rfl⟩
abbrev main_call3_v13 : Ref sig .tc := ⟨.hbm, 50, rfl⟩
abbrev main_call3_v14 : Ref sig .tc := ⟨.hbm, 51, rfl⟩
abbrev main_call3_cst : Ref sig .tc := ⟨.hbm, 52, rfl⟩
abbrev main_call3_v15 : Ref sig .tc := ⟨.hbm, 53, rfl⟩
abbrev main_v7 : Ref sig .tc := ⟨.hbm, 54, rfl⟩
abbrev main_v8 : Ref sig .tc := ⟨.hbm, 55, rfl⟩
abbrev main_cst : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_call4_call0_cst : Ref sig .tc := ⟨.hbm, 60, rfl⟩
abbrev main_call4_call0_v0 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_cst_5 : Ref sig .tc := ⟨.hbm, 68, rfl⟩
abbrev main_v18 : Ref sig .tc := ⟨.hbm, 69, rfl⟩
abbrev main_c_6 : Ref sig .tc := ⟨.hbm, 70, rfl⟩
abbrev main_v19_0 : Ref sig .tc := ⟨.hbm, 71, rfl⟩
abbrev main_v19_1 : Ref sig .tc := ⟨.hbm, 72, rfl⟩
abbrev main_v19_2 : Ref sig .tc := ⟨.hbm, 73, rfl⟩
abbrev main_v19_3 : Ref sig .tc := ⟨.hbm, 74, rfl⟩
abbrev main_v19_4 : Ref sig .tc := ⟨.hbm, 75, rfl⟩
abbrev main_v19_5 : Ref sig .tc := ⟨.hbm, 76, rfl⟩
abbrev main_while0c_c_21 : Ref sig .tc := ⟨.hbm, 77, rfl⟩
abbrev main_while0c_v49 : Ref sig .tc := ⟨.hbm, 78, rfl⟩
abbrev main_while0b_call5_c : Ref sig .tc := ⟨.hbm, 79, rfl⟩
abbrev main_while0b_call5_c_0 : Ref sig .tc := ⟨.hbm, 80, rfl⟩
abbrev main_while0b_call5_v0 : Ref sig .tc := ⟨.hbm, 81, rfl⟩
abbrev main_while0b_v49 : Ref sig .tc := ⟨.hbm, 82, rfl⟩
abbrev main_while0b_call6_c : Ref sig .tc := ⟨.hbm, 83, rfl⟩
abbrev main_while0b_call6_c_0 : Ref sig .tc := ⟨.hbm, 84, rfl⟩
abbrev main_while0b_call6_v0 : Ref sig .tc := ⟨.hbm, 85, rfl⟩
abbrev main_while0b_v50 : Ref sig .tc := ⟨.hbm, 86, rfl⟩
abbrev main_while0b_v51 : Ref sig .tc := ⟨.hbm, 87, rfl⟩
abbrev main_while0b_call7_call0_cst : Ref sig .tc := ⟨.hbm, 88, rfl⟩
abbrev main_while0b_call7_call0_v0 : Ref sig .tc := ⟨.hbm, 89, rfl⟩
abbrev main_while0b_v52 : Ref sig .tc := ⟨.hbm, 90, rfl⟩
abbrev main_while0b_v53 : Ref sig .tc := ⟨.hbm, 91, rfl⟩
abbrev main_while0b_v54 : Ref sig .tc := ⟨.hbm, 92, rfl⟩
abbrev main_while0b_v55 : Ref sig .tc := ⟨.hbm, 93, rfl⟩
abbrev main_while0b_call8_call0_cst : Ref sig .tc := ⟨.hbm, 94, rfl⟩
abbrev main_while0b_call8_call0_v0 : Ref sig .tc := ⟨.hbm, 95, rfl⟩
abbrev main_while0b_v56 : Ref sig .tc := ⟨.hbm, 96, rfl⟩
abbrev main_while0b_v57 : Ref sig .tc := ⟨.hbm, 97, rfl⟩
abbrev main_while0b_v58 : Ref sig .tc := ⟨.hbm, 98, rfl⟩
abbrev main_while0b_call9_v0 : Ref sig .tc := ⟨.hbm, 99, rfl⟩
abbrev main_while0b_call9_c : Ref sig .tc := ⟨.hbm, 100, rfl⟩
abbrev main_while0b_call9_c_0 : Ref sig .tc := ⟨.hbm, 101, rfl⟩
abbrev main_while0b_v59 : Ref sig .tc := ⟨.hbm, 102, rfl⟩
abbrev main_while0b_c_21 : Ref sig .tc := ⟨.hbm, 103, rfl⟩
abbrev main_while0b_v60 : Ref sig .tc := ⟨.hbm, 104, rfl⟩
abbrev main_v20 : Ref sig .tc := ⟨.hbm, 105, rfl⟩
abbrev main_v21 : Ref sig .tc := ⟨.hbm, 106, rfl⟩
abbrev main_c_7 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_c_8 : Ref sig .tc := ⟨.hbm, 111, rfl⟩
abbrev main_v25 : Ref sig .tc := ⟨.hbm, 112, rfl⟩
abbrev main_v26 : Ref sig .tc := ⟨.hbm, 113, rfl⟩
abbrev main_c_9 : Ref sig .tc := ⟨.hbm, 114, rfl⟩
abbrev main_v27 : Ref sig .tc := ⟨.hbm, 115, rfl⟩
abbrev main_v28 : Ref sig .tc := ⟨.hbm, 116, rfl⟩
abbrev main_v29 : Ref sig .tc := ⟨.hbm, 117, rfl⟩
abbrev main_c_10 : Ref sig .tc := ⟨.hbm, 118, rfl⟩
abbrev main_v30 : Ref sig .tc := ⟨.hbm, 119, rfl⟩
abbrev main_v31 : Ref sig .tc := ⟨.hbm, 120, rfl⟩
abbrev main_c_11 : Ref sig .tc := ⟨.hbm, 121, rfl⟩
abbrev main_v32 : Ref sig .tc := ⟨.hbm, 122, rfl⟩
abbrev main_v33 : Ref sig .tc := ⟨.hbm, 123, rfl⟩
abbrev main_v34 : Ref sig .tc := ⟨.hbm, 124, rfl⟩
abbrev main_c_12 : Ref sig .tc := ⟨.hbm, 125, rfl⟩
abbrev main_v35 : Ref sig .tc := ⟨.hbm, 126, rfl⟩
abbrev main_v36 : Ref sig .tc := ⟨.hbm, 127, rfl⟩
abbrev main_c_13 : Ref sig .tc := ⟨.hbm, 128, rfl⟩
abbrev main_v37 : Ref sig .tc := ⟨.hbm, 129, rfl⟩
abbrev main_v38 : Ref sig .tc := ⟨.hbm, 130, rfl⟩
abbrev main_v39 : Ref sig .tc := ⟨.hbm, 131, rfl⟩
abbrev main_v40 : Ref sig .tc := ⟨.hbm, 132, rfl⟩
abbrev main_v41 : Ref sig .tc := ⟨.hbm, 133, rfl⟩
abbrev main_v42 : Ref sig .tc := ⟨.hbm, 134, rfl⟩
abbrev main_v43 : Ref sig .tc := ⟨.hbm, 135, rfl⟩
abbrev main_v44 : Ref sig .tc := ⟨.hbm, 136, rfl⟩
abbrev main_cst_14 : Ref sig .tc := ⟨.hbm, 137, rfl⟩
abbrev main_v45 : Ref sig .tc := ⟨.hbm, 138, rfl⟩
abbrev main_cst_15 : Ref sig .tc := ⟨.hbm, 139, rfl⟩
abbrev main_v46 : Ref sig .tc := ⟨.hbm, 140, rfl⟩
abbrev main_v47 : Ref sig .tc := ⟨.hbm, 141, rfl⟩
abbrev main_v48 : Ref sig .tc := ⟨.hbm, 142, rfl⟩

abbrev nD : Nat := 1
abbrev τ : Topo := Topo.v7x

variable {F : FTy → Type} [FloatOps F]

abbrev main_while0_count : Scf.Loop 32 := ⟨0#32, 511#32, 1#32⟩
-- ==== Proof.KI.Rows.lean ====
module

public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe

variable {F : FTy → Type} [FloatOps F] [Named F]

/-! The body in its own words: one alpha row from the row before it, and the sixteen rows of a block in turn. -/

/-- The constant the kernel puts where a shifted row has no lane. -/
def maskC : F .f32 := Named.named κ "mask" 0xF149F2CA#32

/-- The constant zero. -/
def zeroC : F .f32 := Scalar.ofBits .f32 0x00000000#32

/-- The lanes moved `k` up, with `z` in the `k` first. -/
def shift (k : ℕ) (hs : S1x128.Slices ![0, 0] ⟨2, ![1, 128 - k]⟩)
    (hc : Shape.Concatenates [⟨2, ![1, k]⟩, ⟨2, ![1, 128 - k]⟩] S1x128 1) (z : F .f32) (x : FVec F S1x128 .f32) :
    FVec F S1x128 .f32 :=
  concatenate S1x128 1 [⟨⟨2, ![1, k]⟩, broadcast ⟨2, ![1, k]⟩ z⟩,
    ⟨⟨2, ![1, 128 - k]⟩, extractStridedSlice ⟨2, ![1, 128 - k]⟩ ![0, 0] x hs⟩] hc

/-- A row added to itself moved `k` lanes up. -/
def addUp (k : ℕ) (hs : S1x128.Slices ![0, 0] ⟨2, ![1, 128 - k]⟩)
    (hc : Shape.Concatenates [⟨2, ![1, k]⟩, ⟨2, ![1, 128 - k]⟩] S1x128 1) (x : FVec F S1x128 .f32) : FVec F S1x128 .f32 :=
  addf x (shift k hs hc zeroC x)

/-- The sum of the lanes below each lane, by doubling. -/
def below (x : FVec F S1x128 .f32) : FVec F S1x128 .f32 :=
  addUp 64 slices_S1x128_o0_0_S1x64 concatenates_S1x64_S1x64_S1x128_d1
    (addUp 32 slices_S1x128_o0_0_S1x96 concatenates_S1x32_S1x96_S1x128_d1
    (addUp 16 slices_S1x128_o0_0_S1x112 concatenates_S1x16_S1x112_S1x128_d1
    (addUp 8 slices_S1x128_o0_0_S1x120 concatenates_S1x8_S1x120_S1x128_d1
    (addUp 4 slices_S1x128_o0_0_S1x124 concatenates_S1x4_S1x124_S1x128_d1
    (addUp 2 slices_S1x128_o0_0_S1x126 concatenates_S1x2_S1x126_S1x128_d1
    (addUp 1 slices_S1x128_o0_0_S1x127 concatenates_S1x1_S1x127_S1x128_d1
      (shift 1 slices_S1x128_o0_0_S1x127 concatenates_S1x1_S1x127_S1x128_d1 zeroC x)))))))

/-- The logarithm of the sum of two exponentials, as the kernel writes it. -/
def logAdd (x s : FVec F S1x128 .f32) : FVec F S1x128 .f32 :=
  addf (maximumf x s) (log1p (exp (subf (broadcast S1x128 zeroC) (absf (subf x s)))))

/-- A row joined by `logAdd` to itself moved `k` lanes up. -/
def joinUp (k : ℕ) (hs : S1x128.Slices ![0, 0] ⟨2, ![1, 128 - k]⟩)
    (hc : Shape.Concatenates [⟨2, ![1, k]⟩, ⟨2, ![1, 128 - k]⟩] S1x128 1) (x : FVec F S1x128 .f32) : FVec F S1x128 .f32 :=
  logAdd x (shift k hs hc maskC x)

/-- The running log-sum-exp of the lanes, by doubling. -/
def running (x : FVec F S1x128 .f32) : FVec F S1x128 .f32 :=
  joinUp 64 slices_S1x128_o0_0_S1x64 concatenates_S1x64_S1x64_S1x128_d1
    (joinUp 32 slices_S1x128_o0_0_S1x96 concatenates_S1x32_S1x96_S1x128_d1
    (joinUp 16 slices_S1x128_o0_0_S1x112 concatenates_S1x16_S1x112_S1x128_d1
    (joinUp 8 slices_S1x128_o0_0_S1x120 concatenates_S1x8_S1x120_S1x128_d1
    (joinUp 4 slices_S1x128_o0_0_S1x124 concatenates_S1x4_S1x124_S1x128_d1
    (joinUp 2 slices_S1x128_o0_0_S1x126 concatenates_S1x2_S1x126_S1x128_d1
    (joinUp 1 slices_S1x128_o0_0_S1x127 concatenates_S1x1_S1x127_S1x128_d1 x))))))

/-- The row after `r`: `em` its own emissions, `bl` the blanks of the row before. -/
def alpha (em r bl : FVec F S1x128 .f32) : FVec F S1x128 .f32 :=
  addf (below em) (running (subf (addf r bl) (below em)))

/-- Each of a block's sixteen rows is a slice of the block. -/
theorem slices_row : ∀ i : Fin 16, S16x128.Slices ![i.val, 0] S1x128 := by decide

/-- Row `i` of a block of sixteen. -/
def rowOf (v : FVec F S16x128 .f32) (i : ℕ) : FVec F S1x128 .f32 :=
  extractStridedSlice S1x128 ![(Fin.ofNat 16 i).val, 0] v (slices_row (Fin.ofNat 16 i))

/-- Row `i + 1` of the block from row `i`. -/
def next (e b : FVec F S16x128 .f32) (i : ℕ) (r : FVec F S1x128 .f32) : FVec F S1x128 .f32 :=
  alpha (rowOf e (i + 1)) r (rowOf b i)

/-- The block's first row: at the first block the emissions' sums, later from the row `r` and blanks `p` carried in. -/
def first (tb : BitVec 32) (e : FVec F S16x128 .f32) (r p : FVec F S1x128 .f32) : FVec F S1x128 .f32 :=
  Scalar.select (Scalar.cmpi .eq tb 0#32) (below (rowOf e 0)) (alpha (rowOf e 0) r p)

/-- The block's rows in turn from its first. -/
def rows (e b : FVec F S16x128 .f32) (r : FVec F S1x128 .f32) : ℕ → FVec F S1x128 .f32
  | 0 => r
  | i + 1 => next e b i (rows e b r i)

/-- What row `i` of the block gives to the lane totals: its selected lane if it is the wanted time, else nothing. -/
def hit (tb : BitVec 32) (tl : Elt F .i32) (us : FVec F S1x128 .f32) (i : ℕ) (r : FVec F S1x128 .f32) :
    FVec F S1x128 .f32 :=
  Scalar.select (Scalar.cmpi .eq (Scalar.addi (Scalar.muli tb 16#32) (BitVec.ofNat 32 i)) tl) (mulf r us)
    (broadcast S1x128 zeroC)

/-- The block's contribution after its rows `0 … i`. -/
def hits (tb : BitVec 32) (tl : Elt F .i32) (us : FVec F S1x128 .f32) (e b : FVec F S16x128 .f32)
    (r : FVec F S1x128 .f32) : ℕ → FVec F S1x128 .f32
  | 0 => addf (broadcast S1x128 zeroC) (hit tb tl us 0 r)
  | i + 1 => addf (hits tb tl us e b r i) (hit tb tl us (i + 1) (rows e b r (i + 1)))

/-- After row `i` the partial total is `a` and the row is `r`. -/
def Good (tb : BitVec 32) (tl : Elt F .i32) (us : FVec F S1x128 .f32) (e b : FVec F S16x128 .f32)
    (f : FVec F S1x128 .f32) (i : ℕ) (a r : FVec F S1x128 .f32) : Prop :=
  a = hits tb tl us e b f i ∧ r = rows e b f i

/-- One more row. -/
theorem Good.next {tb : BitVec 32} {tl : Elt F .i32} {us : FVec F S1x128 .f32} {e b : FVec F S16x128 .f32}
    {f : FVec F S1x128 .f32} {i : ℕ} {a r : FVec F S1x128 .f32} (h : Good tb tl us e b f i a r) :
    Good tb tl us e b f (i + 1) (addf a (hit tb tl us (i + 1) (next e b i r))) (next e b i r) := by
  obtain ⟨rfl, rfl⟩ := h
  exact ⟨rfl, rfl⟩

section Printed
/-! Each printed row is `next` of the row before it, and each printed partial total adds that row's `hit`. The printed
    values are cut at other operations from row to row, so each row has its own statement. -/
variable {tb : BitVec 32} {tl : Elt F .i32} {us : FVec F S1x128 .f32} {e b : FVec F S16x128 .f32} {f a : FVec F S1x128 .f32}

/-- The first row. -/
theorem good0 (r p : FVec F S1x128 .f32) : Good tb tl us e b (first tb e r p) 0
    (k0_pay18 tb tl us k0_pay8 (k0_pay10 e) (k0_pay14 (k0_pay11 e r p) maskC) (k0_pay15 (k0_pay11 e r p) maskC) k0_pay16)
    (k0_pay17 tb (k0_pay10 e) (k0_pay14 (k0_pay11 e r p) maskC) (k0_pay15 (k0_pay11 e r p) maskC) k0_pay16) :=
  ⟨rfl, rfl⟩

/-- From row 0 to row 1. -/
theorem good1 {r : FVec F S1x128 .f32} (h : Good tb tl us e b f 0 a r) : Good tb tl us e b f 1
    (k0_pay29 tb tl us a (k0_pay23 (k0_pay20 e) k0_pay21 (k0_pay22 e)) (k0_pay26 (k0_pay9 b) r (k0_pay20 e) k0_pay21 (k0_pay22 e)) (k0_pay27 (k0_pay9 b) r (k0_pay20 e) k0_pay21 (k0_pay22 e)))
    (k0_pay28 (k0_pay23 (k0_pay20 e) k0_pay21 (k0_pay22 e)) (k0_pay26 (k0_pay9 b) r (k0_pay20 e) k0_pay21 (k0_pay22 e)) (k0_pay27 (k0_pay9 b) r (k0_pay20 e) k0_pay21 (k0_pay22 e))) :=
  h.next

/-- From row 1 to row 2. -/
theorem good2 {r : FVec F S1x128 .f32} (h : Good tb tl us e b f 1 a r) : Good tb tl us e b f 2
    (k0_pay42 tb tl us a (k0_pay33 (k0_pay30 e) k0_pay32) (k0_pay38 (k0_pay36 (k0_pay19 b) r (k0_pay30 e) k0_pay32) (k0_pay37 (k0_pay19 b) r (k0_pay30 e) k0_pay32) zeroC) k0_pay39 (k0_pay40 (k0_pay36 (k0_pay19 b) r (k0_pay30 e) k0_pay32) (k0_pay37 (k0_pay19 b) r (k0_pay30 e) k0_pay32) zeroC))
    (k0_pay41 (k0_pay33 (k0_pay30 e) k0_pay32) (k0_pay38 (k0_pay36 (k0_pay19 b) r (k0_pay30 e) k0_pay32) (k0_pay37 (k0_pay19 b) r (k0_pay30 e) k0_pay32) zeroC) k0_pay39 (k0_pay40 (k0_pay36 (k0_pay19 b) r (k0_pay30 e) k0_pay32) (k0_pay37 (k0_pay19 b) r (k0_pay30 e) k0_pay32) zeroC)) :=
  h.next

/-- From row 2 to row 3. -/
theorem good3 {r : FVec F S1x128 .f32} (h : Good tb tl us e b f 2 a r) : Good tb tl us e b f 3
    (k0_pay51 tb tl us a (k0_pay47 (k0_pay44 e) k0_pay45 (k0_pay46 e)) (k0_pay48 (k0_pay31 b) r (k0_pay44 e) k0_pay45 (k0_pay46 e)) (k0_pay49 (k0_pay31 b) r (k0_pay44 e) k0_pay45 (k0_pay46 e)))
    (k0_pay50 (k0_pay47 (k0_pay44 e) k0_pay45 (k0_pay46 e)) (k0_pay48 (k0_pay31 b) r (k0_pay44 e) k0_pay45 (k0_pay46 e)) (k0_pay49 (k0_pay31 b) r (k0_pay44 e) k0_pay45 (k0_pay46 e))) :=
  h.next

/-- From row 3 to row 4. -/
theorem good4 {r : FVec F S1x128 .f32} (h : Good tb tl us e b f 3 a r) : Good tb tl us e b f 4
    (k0_pay62 tb tl us a (k0_pay56 (k0_pay53 e) k0_pay54 (k0_pay55 e)) (k0_pay60 (k0_pay57 (k0_pay43 b) r (k0_pay53 e) k0_pay54 (k0_pay55 e)) (k0_pay58 (k0_pay43 b) r (k0_pay53 e) k0_pay54 (k0_pay55 e)) (k0_pay59 (k0_pay43 b) r (k0_pay53 e) k0_pay54 (k0_pay55 e))))
    (k0_pay61 (k0_pay56 (k0_pay53 e) k0_pay54 (k0_pay55 e)) (k0_pay60 (k0_pay57 (k0_pay43 b) r (k0_pay53 e) k0_pay54 (k0_pay55 e)) (k0_pay58 (k0_pay43 b) r (k0_pay53 e) k0_pay54 (k0_pay55 e)) (k0_pay59 (k0_pay43 b) r (k0_pay53 e) k0_pay54 (k0_pay55 e)))) :=
  h.next

/-- From row 4 to row 5. -/
theorem good5 {c l : FVec F S1x128 .f32} (h : Good tb tl us e b f 4 a (k0_pay61 c l)) : Good tb tl us e b f 5
    (k0_pay71 tb tl us a (k0_pay64 e) (k0_pay69 (k0_pay67 e (k0_pay52 b) c l) (k0_pay68 e (k0_pay52 b) c l)) maskC)
    (k0_pay70 (k0_pay64 e) (k0_pay69 (k0_pay67 e (k0_pay52 b) c l) (k0_pay68 e (k0_pay52 b) c l)) maskC) :=
  h.next

/-- From row 5 to row 6. -/
theorem good6 {r : FVec F S1x128 .f32} (h : Good tb tl us e b f 5 a r) : Good tb tl us e b f 6
    (k0_pay81 a (k0_pay80 tb tl us (k0_pay76 (k0_pay73 e) k0_pay74 (k0_pay75 e)) (k0_pay77 (k0_pay63 b) r (k0_pay73 e) k0_pay74 (k0_pay75 e)) k0_pay78))
    (k0_pay79 (k0_pay76 (k0_pay73 e) k0_pay74 (k0_pay75 e)) (k0_pay77 (k0_pay63 b) r (k0_pay73 e) k0_pay74 (k0_pay75 e)) k0_pay78) :=
  h.next

/-- From row 6 to row 7. -/
theorem good7 {r : FVec F S1x128 .f32} (h : Good tb tl us e b f 6 a r) : Good tb tl us e b f 7
    (k0_pay92 tb tl us a (k0_pay83 e) (k0_pay89 (k0_pay84 e (k0_pay72 b) r) k0_pay85 (k0_pay86 e (k0_pay72 b) r)) (k0_pay90 (k0_pay84 e (k0_pay72 b) r) k0_pay85 (k0_pay86 e (k0_pay72 b) r)))
    (k0_pay91 (k0_pay83 e) (k0_pay89 (k0_pay84 e (k0_pay72 b) r) k0_pay85 (k0_pay86 e (k0_pay72 b) r)) (k0_pay90 (k0_pay84 e (k0_pay72 b) r) k0_pay85 (k0_pay86 e (k0_pay72 b) r))) :=
  h.next

/-- From row 7 to row 8. -/
theorem good8 {r : FVec F S1x128 .f32} (h : Good tb tl us e b f 7 a r) : Good tb tl us e b f 8
    (k0_pay103 tb tl us a (k0_pay97 (k0_pay94 e) k0_pay95 (k0_pay96 e)) (k0_pay100 (k0_pay82 b) r (k0_pay94 e) k0_pay95 (k0_pay96 e)) (k0_pay101 (k0_pay82 b) r (k0_pay94 e) k0_pay95 (k0_pay96 e)))
    (k0_pay102 (k0_pay97 (k0_pay94 e) k0_pay95 (k0_pay96 e)) (k0_pay100 (k0_pay82 b) r (k0_pay94 e) k0_pay95 (k0_pay96 e)) (k0_pay101 (k0_pay82 b) r (k0_pay94 e) k0_pay95 (k0_pay96 e))) :=
  h.next

/-- From row 8 to row 9. -/
theorem good9 {r : FVec F S1x128 .f32} (h : Good tb tl us e b f 8 a r) : Good tb tl us e b f 9
    (k0_pay115 tb tl us a (k0_pay108 (k0_pay105 e) k0_pay106 (k0_pay107 e)) (k0_pay112 (k0_pay109 (k0_pay93 b) r (k0_pay105 e) k0_pay106 (k0_pay107 e))) (k0_pay113 (k0_pay109 (k0_pay93 b) r (k0_pay105 e) k0_pay106 (k0_pay107 e))) zeroC)
    (k0_pay114 (k0_pay108 (k0_pay105 e) k0_pay106 (k0_pay107 e)) (k0_pay112 (k0_pay109 (k0_pay93 b) r (k0_pay105 e) k0_pay106 (k0_pay107 e))) (k0_pay113 (k0_pay109 (k0_pay93 b) r (k0_pay105 e) k0_pay106 (k0_pay107 e))) zeroC) :=
  h.next

/-- From row 9 to row 10. -/
theorem good10 {c l l' : FVec F S1x128 .f32} (h : Good tb tl us e b f 9 a (k0_pay114 c l l' zeroC)) : Good tb tl us e b f 10
    (k0_pay125 tb tl us a (k0_pay117 e) (k0_pay121 (k0_pay118 e (k0_pay104 b) c l l' zeroC) maskC) (k0_pay122 (k0_pay118 e (k0_pay104 b) c l l' zeroC) maskC) k0_pay123)
    (k0_pay124 (k0_pay117 e) (k0_pay121 (k0_pay118 e (k0_pay104 b) c l l' zeroC) maskC) (k0_pay122 (k0_pay118 e (k0_pay104 b) c l l' zeroC) maskC) k0_pay123) :=
  h.next

/-- From row 10 to row 11. -/
theorem good11 {r : FVec F S1x128 .f32} (h : Good tb tl us e b f 10 a r) : Good tb tl us e b f 11
    (k0_pay136 tl us a (k0_pay135 (k0_pay130 (k0_pay127 e) k0_pay128 (k0_pay129 e)) (k0_pay133 (k0_pay116 b) r (k0_pay127 e) k0_pay128 (k0_pay129 e)) (k0_pay134 (k0_pay116 b) r (k0_pay127 e) k0_pay128 (k0_pay129 e))) (Scalar.addi (Scalar.muli tb 16#32) 11#32))
    (k0_pay135 (k0_pay130 (k0_pay127 e) k0_pay128 (k0_pay129 e)) (k0_pay133 (k0_pay116 b) r (k0_pay127 e) k0_pay128 (k0_pay129 e)) (k0_pay134 (k0_pay116 b) r (k0_pay127 e) k0_pay128 (k0_pay129 e))) :=
  h.next

/-- From row 11 to row 12. -/
theorem good12 {r : FVec F S1x128 .f32} (h : Good tb tl us e b f 11 a r) : Good tb tl us e b f 12
    (k0_pay148 tb tl us a (k0_pay138 e) (k0_pay145 (k0_pay141 e (k0_pay126 b) r) (k0_pay142 e (k0_pay126 b) r)) (k0_pay146 (k0_pay141 e (k0_pay126 b) r) (k0_pay142 e (k0_pay126 b) r)))
    (k0_pay147 (k0_pay138 e) (k0_pay145 (k0_pay141 e (k0_pay126 b) r) (k0_pay142 e (k0_pay126 b) r)) (k0_pay146 (k0_pay141 e (k0_pay126 b) r) (k0_pay142 e (k0_pay126 b) r))) :=
  h.next

/-- From row 12 to row 13. -/
theorem good13 {r : FVec F S1x128 .f32} (h : Good tb tl us e b f 12 a r) : Good tb tl us e b f 13
    (k0_pay159 tb tl us a (k0_pay153 (k0_pay150 e) k0_pay151 (k0_pay152 e)) (k0_pay156 (k0_pay137 b) r (k0_pay150 e) k0_pay151 (k0_pay152 e)) (k0_pay157 (k0_pay137 b) r (k0_pay150 e) k0_pay151 (k0_pay152 e)))
    (k0_pay158 (k0_pay153 (k0_pay150 e) k0_pay151 (k0_pay152 e)) (k0_pay156 (k0_pay137 b) r (k0_pay150 e) k0_pay151 (k0_pay152 e)) (k0_pay157 (k0_pay137 b) r (k0_pay150 e) k0_pay151 (k0_pay152 e))) :=
  h.next

/-- From row 13 to row 14. -/
theorem good14 {r : FVec F S1x128 .f32} (h : Good tb tl us e b f 13 a r) : Good tb tl us e b f 14
    (k0_pay172 tb tl us a (k0_pay163 (k0_pay160 e) k0_pay162) (k0_pay168 (k0_pay166 (k0_pay149 b) r (k0_pay160 e) k0_pay162) (k0_pay167 (k0_pay149 b) r (k0_pay160 e) k0_pay162) zeroC) k0_pay169 (k0_pay170 (k0_pay166 (k0_pay149 b) r (k0_pay160 e) k0_pay162) (k0_pay167 (k0_pay149 b) r (k0_pay160 e) k0_pay162) zeroC))
    (k0_pay171 (k0_pay163 (k0_pay160 e) k0_pay162) (k0_pay168 (k0_pay166 (k0_pay149 b) r (k0_pay160 e) k0_pay162) (k0_pay167 (k0_pay149 b) r (k0_pay160 e) k0_pay162) zeroC) k0_pay169 (k0_pay170 (k0_pay166 (k0_pay149 b) r (k0_pay160 e) k0_pay162) (k0_pay167 (k0_pay149 b) r (k0_pay160 e) k0_pay162) zeroC)) :=
  h.next

/-- From row 14 to row 15. -/
theorem good15 {r : FVec F S1x128 .f32} (h : Good tb tl us e b f 14 a r) : Good tb tl us e b f 15
    (k0_pay181 tb tl us a (k0_pay177 (k0_pay174 e) k0_pay175 (k0_pay176 e)) (k0_pay178 (k0_pay161 b) r (k0_pay174 e) k0_pay175 (k0_pay176 e)) (k0_pay179 (k0_pay161 b) r (k0_pay174 e) k0_pay175 (k0_pay176 e)))
    (k0_pay180 (k0_pay177 (k0_pay174 e) k0_pay175 (k0_pay176 e)) (k0_pay178 (k0_pay161 b) r (k0_pay174 e) k0_pay175 (k0_pay176 e)) (k0_pay179 (k0_pay161 b) r (k0_pay174 e) k0_pay175 (k0_pay176 e))) :=
  h.next

end Printed

end Cert.KernelIdeal.Hand

end
-- ==== Proof.KI.Runs.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WholeRead
public import Idealize.ShloMosaic.Lib.Pipeline.Value
public import proofs.«01_k».proof.Proof.KI.Rows

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's one test: whether the time-block coordinate is zero, so the lane totals are being started. -/
abbrev atStart (i : grid0.Coords) : Prop :=
  (Scalar.cmpi .ne (Scalar.extui (Scalar.cmpi .eq (BitVec.ofNat 32 (i 1).val) 0#32)) 0#32) = 1#1

/-- The time-block coordinate, as the body reads it. -/
def tbw (i : grid0.Coords) : BitVec 32 := BitVec.ofNat 32 (i 1).val

/-- A batch's word of a table of four. -/
def word (x : Vec F S4 .i32) (i : grid0.Coords) : Elt F .i32 :=
  x ((Rect.unit (s := S4) (k0_off1 i) S1.size (k0_off1_inb i)).toLoadRect.idx (Shape.Idx.first (numel1_S1.symm ▸ Nat.one_pos)))

/-- The first row of point `i`'s block. -/
def firstOf (i : grid0.Coords) (x0 : Vec F S1x16x101x1024 .f32) (x1 : Vec F S1x101x1 .i32) (r p : Vec F S1x128 .f32) :
    FVec F S1x128 .f32 :=
  first (tbw i) (k0_pay5 x0 x1) r p

/-- The lane totals after point `i`, from the totals `xo` it adds to and the row and blanks carried in. -/
def outOf (i : grid0.Coords) (x0 : Vec F S1x16x101x1024 .f32) (x1 : Vec F S1x101x1 .i32) (x2 x3 : Vec F S4 .i32)
    (xo : Vec F S1x1x128 .f32) (r p : Vec F S1x128 .f32) : Vec F S1x1x128 .f32 :=
  k0_pay2 (hits (tbw i) (word x2 i) (k0_pay7 (F := F) (word x3 i)) (k0_pay5 x0 x1) (k0_pay6 x0) (firstOf i x0 x1 r p) 15) xo

/-- The row point `i` carries out. -/
def rowOut (i : grid0.Coords) (x0 : Vec F S1x16x101x1024 .f32) (x1 : Vec F S1x101x1 .i32) (r p : Vec F S1x128 .f32) :
    Vec F S1x128 .f32 :=
  shapeCast S1x128 (rows (k0_pay5 x0 x1) (k0_pay6 x0) (firstOf i x0 x1 r p) 15) shapeCasts_S1x128_S1x128

/-- The blanks point `i` carries out. -/
def blankOut (x0 : Vec F S1x16x101x1024 .f32) : Vec F S1x128 .f32 :=
  shapeCast S1x128 (rowOf (k0_pay6 x0) 15) shapeCasts_S1x128_S1x128

theorem off_zero2 : (![0, 0] : Fin 2 → ℕ) = fun _ => 0 := by decide
theorem off_zero3 : (![0, 0, 0] : Fin 3 → ℕ) = fun _ => 0 := by decide
theorem off_zero4 : (![0, 0, 0, 0] : Fin 4 → ℕ) = fun _ => 0 := by decide

set_option maxHeartbeats 1000000 in
/-- The body where the lane totals are carried on: what it stores in the totals and in the two carried rows, with the
    triple saying so. -/
noncomputable def runOn (c : Dev nD) (i : grid0.Coords) (arg2 : Memref sig .tc .vmem S1x16x101x1024 .f32) (harg2 : arg2.IsWhole) (arg3 : Memref sig .tc .vmem S1x101x1 .i32) (harg3 : arg3.IsWhole) (arg4 : Memref sig .tc .smem S4 .i32) (harg4 : arg4.IsWhole) (arg5 : Memref sig .tc .smem S4 .i32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc1 : ¬atStart i)
    (x0 : Vec F S1x16x101x1024 .f32) (x1 : Vec F S1x101x1 .i32) (x2 : Vec F S4 .i32) (x3 : Vec F S4 .i32) (xo4 : Vec F S1x1x128 .f32) (xs0 : Vec F S1x128 .f32) (xs1 : Vec F S1x128 .f32) :
    Σ' (L4 : List (View.Piece (Elt F) S1x1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_rnnt_alpha i arg2 harg2 arg3 harg3 arg4 harg4 arg5 harg5 arg6 harg6 arg7 harg7 arg8 harg8) K } := by
  refine ⟨?_, ?_, ?_, fun E K => ?run⟩
  case run =>
    simp only [cc0_rnnt_alpha_eq_skeleton]; unfold cc0_rnnt_alpha_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

set_option maxHeartbeats 1000000 in
/-- The body where the lane totals are started: what it stores in the totals and in the two carried rows, with the triple
    saying so. -/
noncomputable def runStart (c : Dev nD) (i : grid0.Coords) (arg2 : Memref sig .tc .vmem S1x16x101x1024 .f32) (harg2 : arg2.IsWhole) (arg3 : Memref sig .tc .vmem S1x101x1 .i32) (harg3 : arg3.IsWhole) (arg4 : Memref sig .tc .smem S4 .i32) (harg4 : arg4.IsWhole) (arg5 : Memref sig .tc .smem S4 .i32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc1 : atStart i)
    (x0 : Vec F S1x16x101x1024 .f32) (x1 : Vec F S1x101x1 .i32) (x2 : Vec F S4 .i32) (x3 : Vec F S4 .i32) (xs0 : Vec F S1x128 .f32) (xs1 : Vec F S1x128 .f32) :
    Σ' (L4 : List (View.Piece (Elt F) S1x1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_rnnt_alpha i arg2 harg2 arg3 harg3 arg4 harg4 arg5 harg5 arg6 harg6 arg7 harg7 arg8 harg8) K } := by
  refine ⟨?_, ?_, ?_, fun E K => ?run⟩
  case run =>
    simp only [cc0_rnnt_alpha_eq_skeleton]; unfold cc0_rnnt_alpha_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Hand

end
-- ==== Proof.KI.Vals.lean ====
module

public import proofs.«01_k».proof.Proof.KI.Runs

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A load of a whole buffer reads its contents. -/
theorem read_whole {sp : Space} {s : Shape} {e : EltTy} {M : Memref sig .tc sp s e} (h : M.IsWhole) {off : Fin s.rank → ℕ}
    (h0 : off = fun _ => 0) (inb : ∀ a, off a + s.size a ≤ s.size a) (x : s.Idx → Elt F e) :
    M.view.readAt (Elt F) (Rect.unit off s.size inb).toLoadRect (h.unread x) = x := by
  rw [View.readAt_eq_ld, h.read_unread, View.ld_unit_zero h0]

set_option maxHeartbeats 1000000 in
/-- Where the totals are carried on: what the body leaves in the totals and in the carried row and blanks. -/
theorem on_vals (c : Dev nD) (i : grid0.Coords) (arg2 : Memref sig .tc .vmem S1x16x101x1024 .f32) (harg2 : arg2.IsWhole) (arg3 : Memref sig .tc .vmem S1x101x1 .i32) (harg3 : arg3.IsWhole) (arg4 : Memref sig .tc .smem S4 .i32) (harg4 : arg4.IsWhole) (arg5 : Memref sig .tc .smem S4 .i32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc1 : ¬atStart i)
    (x0 : Vec F S1x16x101x1024 .f32) (x1 : Vec F S1x101x1 .i32) (x2 x3 : Vec F S4 .i32) (xo4 : Vec F S1x1x128 .f32) (xs0 xs1 : Vec F S1x128 .f32) :
    View.canon (runOn c i arg2 harg2 arg3 harg3 arg4 harg4 arg5 harg5 arg6 harg6 arg7 harg7 arg8 harg8 hc1 x0 x1 x2 x3 xo4 xs0 xs1).1 = outOf i x0 x1 x2 x3 xo4 xs0 xs1 ∧
    View.canon (runOn c i arg2 harg2 arg3 harg3 arg4 harg4 arg5 harg5 arg6 harg6 arg7 harg7 arg8 harg8 hc1 x0 x1 x2 x3 xo4 xs0 xs1).2.1 = rowOut i x0 x1 xs0 xs1 ∧
    View.canon (runOn c i arg2 harg2 arg3 harg3 arg4 harg4 arg5 harg5 arg6 harg6 arg7 harg7 arg8 harg8 hc1 x0 x1 x2 x3 xo4 xs0 xs1).2.2.1 = blankOut x0 := by
  obtain ⟨a, r, y0, y1, t, u, z0, z1, h1, h2, h3, hG, rfl, rfl, rfl, rfl, rfl, rfl⟩ : ∃ a r y0 y1 t u z0 z1,
      View.canon (runOn c i arg2 harg2 arg3 harg3 arg4 harg4 arg5 harg5 arg6 harg6 arg7 harg7 arg8 harg8 hc1 x0 x1 x2 x3 xo4 xs0 xs1).1 = k0_pay2 a xo4 ∧
      View.canon (runOn c i arg2 harg2 arg3 harg3 arg4 harg4 arg5 harg5 arg6 harg6 arg7 harg7 arg8 harg8 hc1 x0 x1 x2 x3 xo4 xs0 xs1).2.1 = shapeCast S1x128 r shapeCasts_S1x128_S1x128 ∧
      View.canon (runOn c i arg2 harg2 arg3 harg3 arg4 harg4 arg5 harg5 arg6 harg6 arg7 harg7 arg8 harg8 hc1 x0 x1 x2 x3 xo4 xs0 xs1).2.2.1 = k0_pay183 (k0_pay173 (k0_pay6 y0)) ∧
      Good (tbw i) t (k0_pay7 (F := F) u) (k0_pay5 y0 y1) (k0_pay6 y0) (first (tbw i) (k0_pay5 y0 y1) z0 z1) 15 a r ∧
      y0 = x0 ∧ y1 = x1 ∧ t = word x2 i ∧ u = word x3 i ∧ z0 = xs0 ∧ z1 = xs1 :=
    ⟨_, _, _, _, _, _, _, _, (View.canon_unit_zero off_zero3 _ _).trans (congrArg (k0_pay2 _) (read_whole harg6 off_zero3 inb_S1x1x128_S1x1x128_0_0_0 xo4)), View.canon_unit_zero off_zero2 _ _, View.canon_unit_zero off_zero2 _ _,
      good15 (good14 (good13 (good12 (good11 (good10 (good9 (good8 (good7 (good6 (good5 (good4 (good3 (good2 (good1 (good0 _ _))))))))))))))),
      read_whole harg2 off_zero4 inb_S1x16x101x1024_S1x16x101x1024_0_0_0_0 x0, read_whole harg3 off_zero3 inb_S1x101x1_S1x101x1_0_0_0 x1, harg4.readAt_unread x2 _ _, harg5.readAt_unread x3 _ _,
      read_whole harg7 off_zero2 inb_S1x128_S1x128_0_0 xs0, read_whole harg8 off_zero2 inb_S1x128_S1x128_0_0 xs1⟩
  exact ⟨h1.trans (congrArg (fun z => k0_pay2 z xo4) hG.1), h2.trans (congrArg (fun z => shapeCast S1x128 z shapeCasts_S1x128_S1x128) hG.2), h3⟩

set_option maxHeartbeats 1000000 in
/-- Where the totals are started: what the body leaves in the totals and in the carried row and blanks. -/
theorem start_vals (c : Dev nD) (i : grid0.Coords) (arg2 : Memref sig .tc .vmem S1x16x101x1024 .f32) (harg2 : arg2.IsWhole) (arg3 : Memref sig .tc .vmem S1x101x1 .i32) (harg3 : arg3.IsWhole) (arg4 : Memref sig .tc .smem S4 .i32) (harg4 : arg4.IsWhole) (arg5 : Memref sig .tc .smem S4 .i32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (hc1 : atStart i)
    (x0 : Vec F S1x16x101x1024 .f32) (x1 : Vec F S1x101x1 .i32) (x2 x3 : Vec F S4 .i32) (xs0 xs1 : Vec F S1x128 .f32) :
    View.canon (runStart c i arg2 harg2 arg3 harg3 arg4 harg4 arg5 harg5 arg6 harg6 arg7 harg7 arg8 harg8 hc1 x0 x1 x2 x3 xs0 xs1).1 = outOf i x0 x1 x2 x3 k0_pay1 xs0 xs1 ∧
    View.canon (runStart c i arg2 harg2 arg3 harg3 arg4 harg4 arg5 harg5 arg6 harg6 arg7 harg7 arg8 harg8 hc1 x0 x1 x2 x3 xs0 xs1).2.1 = rowOut i x0 x1 xs0 xs1 ∧
    View.canon (runStart c i arg2 harg2 arg3 harg3 arg4 harg4 arg5 harg5 arg6 harg6 arg7 harg7 arg8 harg8 hc1 x0 x1 x2 x3 xs0 xs1).2.2.1 = blankOut x0 := by
  obtain ⟨a, r, y0, y1, t, u, z0, z1, h1, h2, h3, hG, rfl, rfl, rfl, rfl, rfl, rfl⟩ : ∃ a r y0 y1 t u z0 z1,
      View.canon (runStart c i arg2 harg2 arg3 harg3 arg4 harg4 arg5 harg5 arg6 harg6 arg7 harg7 arg8 harg8 hc1 x0 x1 x2 x3 xs0 xs1).1 = k0_pay2 a k0_pay1 ∧
      View.canon (runStart c i arg2 harg2 arg3 harg3 arg4 harg4 arg5 harg5 arg6 harg6 arg7 harg7 arg8 harg8 hc1 x0 x1 x2 x3 xs0 xs1).2.1 = shapeCast S1x128 r shapeCasts_S1x128_S1x128 ∧
      View.canon (runStart c i arg2 harg2 arg3 harg3 arg4 harg4 arg5 harg5 arg6 harg6 arg7 harg7 arg8 harg8 hc1 x0 x1 x2 x3 xs0 xs1).2.2.1 = k0_pay183 (k0_pay173 (k0_pay6 y0)) ∧
      Good (tbw i) t (k0_pay7 (F := F) u) (k0_pay5 y0 y1) (k0_pay6 y0) (first (tbw i) (k0_pay5 y0 y1) z0 z1) 15 a r ∧
      y0 = x0 ∧ y1 = x1 ∧ t = word x2 i ∧ u = word x3 i ∧ z0 = xs0 ∧ z1 = xs1 :=
    ⟨_, _, _, _, _, _, _, _, (View.canon_cons_unit_zero off_zero3 _ _ _).trans (congrArg (k0_pay2 _) (View.readCov_unit_zero _ off_zero3 _ _)), View.canon_unit_zero off_zero2 _ _, View.canon_unit_zero off_zero2 _ _,
      good15 (good14 (good13 (good12 (good11 (good10 (good9 (good8 (good7 (good6 (good5 (good4 (good3 (good2 (good1 (good0 _ _))))))))))))))),
      read_whole harg2 off_zero4 inb_S1x16x101x1024_S1x16x101x1024_0_0_0_0 x0, read_whole harg3 off_zero3 inb_S1x101x1_S1x101x1_0_0_0 x1, harg4.readAt_unread x2 _ _, harg5.readAt_unread x3 _ _,
      read_whole harg7 off_zero2 inb_S1x128_S1x128_0_0 xs0, read_whole harg8 off_zero2 inb_S1x128_S1x128_0_0 xs1⟩
  exact ⟨h1.trans (congrArg (fun z => k0_pay2 z k0_pay1) hG.1), h2.trans (congrArg (fun z => shapeCast S1x128 z shapeCasts_S1x128_S1x128) hG.2), h3⟩

end Cert.KernelIdeal.Hand

end
-- ==== Proof.KI.Data.lean ====
module

public import proofs.«01_k».proof.Proof.KI.Vals
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The totals are started exactly at the points whose number is a multiple of 32. -/
theorem atStart_iff : ∀ t : Fin cfg0.N, atStart (grid0.coords t) ↔ t.val % 32 = 0 :=
  (fun t => by
    have ht : t.val < 128 := Nat.lt_of_lt_of_eq t.isLt N_0
    have e1 : (grid0.coords t 1).val = t.val / 1 % 32 := Pipeline.Grid.coords_val t 1 (by decide) rfl
    simp only [atStart, e1]
    word_cmp
   : ∀ t : Fin grid0.N, atStart (grid0.coords t) ↔ t.val % 32 = 0)

/-- At those points the time-block word is zero. -/
theorem tbw_start (t : Fin cfg0.N) (h : t.val % 32 = 0) : tbw (grid0.coords t) = 0#32 := by
  have e1 : (grid0.coords t 1).val = t.val / 1 % 32 :=
    (fun t : Fin grid0.N => Pipeline.Grid.coords_val t 1 (by decide) rfl) t
  rw [tbw, e1, Nat.div_one, h]

/-- There the first row does not depend on what was carried in. -/
theorem firstOf_start (t : Fin cfg0.N) (h : t.val % 32 = 0) (x0 : Vec F S1x16x101x1024 .f32) (x1 : Vec F S1x101x1 .i32)
    (r p : Vec F S1x128 .f32) : firstOf (grid0.coords t) x0 x1 r p = below (rowOf (k0_pay5 x0 x1) 0) := by
  rw [firstOf, tbw_start t h]; rfl

/-- Window 0's staging buffer at point `t`. -/
abbrev st0 (t : Fin cfg0.N) : Memref sig .tc .vmem S1x16x101x1024 .f32 := win0_0.stage (cfg0.slots t 0)
/-- It is a whole buffer. -/
abbrev hst0 (t : Fin cfg0.N) : (st0 t).IsWhole := hstage0_0 ((cfg0.slots t 0).cast nbuf0_0)
/-- Window 1's staging buffer at point `t`. -/
abbrev st1 (t : Fin cfg0.N) : Memref sig .tc .vmem S1x101x1 .i32 := win0_1.stage (cfg0.slots t 1)
/-- It is a whole buffer. -/
abbrev hst1 (t : Fin cfg0.N) : (st1 t).IsWhole := hstage0_1 ((cfg0.slots t 1).cast nbuf0_1)
/-- Window 2's staging buffer at point `t`. -/
abbrev st2 (t : Fin cfg0.N) : Memref sig .tc .smem S4 .i32 := win0_2.stage (cfg0.slots t 2)
/-- It is a whole buffer. -/
abbrev hst2 (t : Fin cfg0.N) : (st2 t).IsWhole := hstage0_2 ((cfg0.slots t 2).cast nbuf0_2)
/-- Window 3's staging buffer at point `t`. -/
abbrev st3 (t : Fin cfg0.N) : Memref sig .tc .smem S4 .i32 := win0_3.stage (cfg0.slots t 3)
/-- It is a whole buffer. -/
abbrev hst3 (t : Fin cfg0.N) : (st3 t).IsWhole := hstage0_3 ((cfg0.slots t 3).cast nbuf0_3)
/-- Window 4's staging buffer at point `t`. -/
abbrev st4 (t : Fin cfg0.N) : Memref sig .tc .vmem S1x1x128 .f32 := win0_4.stage (cfg0.slots t 4)
/-- It is a whole buffer. -/
abbrev hst4 (t : Fin cfg0.N) : (st4 t).IsWhole := hstage0_4 ((cfg0.slots t 4).cast nbuf0_4)
/-- The buffer of the carried row. -/
abbrev rowM : Memref sig .tc .vmem S1x128 .f32 := Memref.whole cc0_scratch0
/-- The buffer of the carried blanks. -/
abbrev blankM : Memref sig .tc .vmem S1x128 .f32 := Memref.whole cc0_scratch1

/-- The launch's invariant over the two carried buffers. -/
theorem PhiA_eq (c : Dev nD) :
    (Pipeline.ΦA spec0 c : sProp 𝕄)
      = iprop(iprop((∃ d, owns (c : Thread nD τ) rowM fullShare d) ∗ (∃ d, owns (c : Thread nD τ) blankM fullShare d)) ∗ (∃ r, prngReg c r)) := by
  unfold Pipeline.ΦA; rw [scopedRest0_eq]; simp only [rowM, blankM, owns_whole]; try rfl

/-- Point `t`'s results from the totals, row and blanks before it. -/
def pointOut (c : Dev nD) (t : Fin cfg0.N) (s : Vec F S1x1x128 .f32 × Vec F S1x128 .f32 × Vec F S1x128 .f32) :
    Vec F S1x1x128 .f32 × Vec F S1x128 .f32 × Vec F S1x128 .f32 :=
  (outOf (grid0.coords t) (iblk m c 0 t) (iblk m c 1 t) (iblk m c 2 t) (iblk m c 3 t)
      (if t.val % 32 = 0 then k0_pay1 else s.1) s.2.1 s.2.2,
    rowOut (grid0.coords t) (iblk m c 0 t) (iblk m c 1 t) s.2.1 s.2.2, blankOut (iblk m c 0 t))

/-- The totals, row and blanks after each point. -/
def outsAt (c : Dev nD) : (n : ℕ) → n < cfg0.N → Vec F S1x1x128 .f32 × Vec F S1x128 .f32 × Vec F S1x128 .f32
  | 0, h => pointOut m c ⟨0, h⟩ (k0_pay1, broadcast S1x128 zeroC, broadcast S1x128 zeroC)
  | n + 1, h => pointOut m c ⟨n + 1, h⟩ (outsAt c n (Nat.lt_of_succ_lt h))

/-- At a point where the totals are started nothing before it matters. -/
theorem pointOut_start (c : Dev nD) (t : Fin cfg0.N) (h : t.val % 32 = 0) (s s' : Vec F S1x1x128 .f32 × Vec F S1x128 .f32 × Vec F S1x128 .f32) :
    pointOut m c t s = pointOut m c t s' := by
  unfold pointOut outOf rowOut
  simp only [firstOf_start t h, if_pos h]

/-- So its results are those from any totals, row and blanks. -/
theorem outsAt_start (c : Dev nD) (t : Fin cfg0.N) (h : t.val % 32 = 0) (s : Vec F S1x1x128 .f32 × Vec F S1x128 .f32 × Vec F S1x128 .f32) :
    outsAt m c t.val t.isLt = pointOut m c t s := by
  obtain ⟨n, hn⟩ := t
  cases n with
  | zero => exact pointOut_start m c _ h _ _
  | succ n => exact pointOut_start m c _ h _ _

/-- Elsewhere they are those from the point before. -/
theorem outsAt_on (c : Dev nD) (t : Fin cfg0.N) (h : ¬t.val % 32 = 0) :
    outsAt m c t.val t.isLt = pointOut m c t (outsAt m c (t.val - 1) (Nat.lt_of_le_of_lt (Nat.sub_le _ _) t.isLt)) := by
  obtain ⟨n, hn⟩ := t
  cases n with
  | zero => exact absurd (Nat.zero_mod _) h
  | succ n => rfl

/-- The invariant before point `n`: after the first point, the carried buffers at what the point before left. -/
def PhiS (c : Dev nD) : (n : ℕ) → n ≤ cfg0.N → sProp 𝕄
  | 0, _ => Pipeline.ΦA spec0 c
  | n + 1, hn => iprop(iprop(owns (c : Thread nD τ) rowM fullShare ((outsAt m c n hn).2.1) ∗ owns (c : Thread nD τ) blankM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) rowM fullShare ((outsAt m c n hn).2.1) ∗ owns (c : Thread nD τ) blankM fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) rowM fullShare ((outsAt m c (n - 1) (by omega)).2.1) ∗ owns (c : Thread nD τ) blankM fullShare ((outsAt m c (n - 1) (by omega)).2.2)) ∗ (∃ r, prngReg c r)) := by
  cases n with
  | zero => exact absurd rfl hz
  | succ n => rfl

/-- The pipeline's proof data: each input's buffer at its block, the totals' and the carried buffers' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outsAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- Where the totals are carried on, their buffer holds what the point before left. -/
theorem before_4_on (c : Dev nD) (t : Fin cfg0.N) (h : ¬t.val % 32 = 0) (d) :
    (dats m 0 c).before 4 t d = (outsAt m c (t.val - 1) (Nat.lt_of_le_of_lt (Nat.sub_le _ _) t.isLt)).1 := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dats]

/-- After any point but the first the invariant gives the launch's back. -/
theorem Phi_out (c : Dev nD) (n : ℕ) (h : n ≤ cfg0.N) (hz : n ≠ 0) : PhiS m c n h ⊢ Pipeline.ΦA spec0 c := by
  rw [PhiS_pos m c n h hz, PhiA_eq]
  iintro ⟨⟨HS0, HS1⟩, Hg⟩
  isplitl [HS0 HS1]
  · isplitl [HS0]
    · iexists _; iexact HS0
    iexists _; iexact HS1
  iexact Hg

/-- Before any point the invariant gives the launch's. -/
theorem Phi_forget (c : Dev nD) (n : ℕ) (h : n ≤ cfg0.N) : PhiS m c n h ⊢ Pipeline.ΦA spec0 c := by
  by_cases hz : n = 0
  · rw [PhiS_zero m c n h hz]
  · exact Phi_out m c n h hz

/-- Pieces that tile a shape and come to `x` leave `x`, in any buffer. -/
theorem left_by {sg : RefSig} {kd : Kind} {sp : Space} {s : Shape} {e : EltTy} (v : View sg kd sp s e) (f : v.ty.Contents (Elt F))
    (L : List (View.Piece (Elt F) s e)) {x : s.Idx → Elt F e} (hL : View.Piece.tiledL L s.size = true) (h : View.canon L = x) :
    v.read (Elt F) (v.writes (Elt F) f L) = x :=
  (View.read_writes_of_cover v f v v.junk L (View.cover_of_tiledL L s.size hL)).trans ((View.read_writes_junk_eq_canon v L).trans h)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t))

set_option maxHeartbeats 4800000 in
/-- The body at any point, by whether the totals are started there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3, after_4]
  rw [show (dats m 0 c).Φ t.succ = PhiS m c (t.val + 1) t.isLt from rfl, PhiS_succ, PhiS_castSucc m c t]
  by_cases h1 : t.val % 32 = 0
  · have hf := Phi_forget m c t.val (Nat.le_of_lt t.isLt)
    rw [PhiA_eq] at hf
    iintro ⟨HP, Ho, ⟨%d0, H0⟩, ⟨%d1, H1⟩, ⟨%d2, H2⟩, ⟨%d3, H3⟩, ⟨%d4, H4⟩⟩
    ihave HP := hf $$ HP
    icases HP with ⟨⟨⟨%s0, HS0⟩, ⟨%s1, HS1⟩⟩, Hg⟩
    rw [outsAt_start m c t h1 (k0_pay1, s0, s1)]
    obtain ⟨v4, v0, v1⟩ := start_vals c (grid0.coords t) (st0 t) (hst0 t) (st1 t) (hst1 t) (st2 t) (hst2 t) (st3 t) (hst3 t) (st4 t) (hst4 t) rowM (Memref.isWhole_whole _) blankM (Memref.isWhole_whole _) ((atStart_iff t).mpr h1) (iblk m c 0 t) (iblk m c 1 t) (iblk m c 2 t) (iblk m c 3 t) s0 s1
    iapply ((runStart c (grid0.coords t) _ _ _ _ _ _ _ _ _ _ _ _ _ _ ((atStart_iff t).mpr h1) (iblk m c 0 t) (iblk m c 1 t) (iblk m c 2 t) (iblk m c 3 t) s0 s1).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HS0 HS1 Hg]
    · isplitl [HS0 HS1]
      · isplitl [HS0]
        · unfold owns; iexists _; isplitr
          swap; · iexact HS0
          ipureintro; exact left_by _ _ _ (by sl_kernel_rfl) v0
        unfold owns; iexists _; isplitr
        swap; · iexact HS1
        ipureintro; exact left_by _ _ _ (by sl_kernel_rfl) v1
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact left_by _ _ _ (by sl_kernel_rfl) (v4.trans (by rw [pointOut, if_pos h1]))
  · by_cases hz : t.val = 0
    · exact absurd (by rw [hz]) h1
    rw [PhiS_pos m c _ _ hz, outsAt_on m c t h1]
    simp only [before_4_on m c t h1]
    obtain ⟨v4, v0, v1⟩ := on_vals c (grid0.coords t) (st0 t) (hst0 t) (st1 t) (hst1 t) (st2 t) (hst2 t) (st3 t) (hst3 t) (st4 t) (hst4 t) rowM (Memref.isWhole_whole _) blankM (Memref.isWhole_whole _) (fun h => h1 ((atStart_iff t).mp h)) (iblk m c 0 t) (iblk m c 1 t) (iblk m c 2 t) (iblk m c 3 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2
    iintro ⟨⟨⟨HS0, HS1⟩, Hg⟩, Ho, ⟨%d0, H0⟩, ⟨%d1, H1⟩, ⟨%d2, H2⟩, ⟨%d3, H3⟩, ⟨%d4, H4⟩⟩
    iapply ((runOn c (grid0.coords t) _ _ _ _ _ _ _ _ _ _ _ _ _ _ (fun h => h1 ((atStart_iff t).mp h)) (iblk m c 0 t) (iblk m c 1 t) (iblk m c 2 t) (iblk m c 3 t) _ _ _).2.2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, ⟨%e4, H4⟩, ⟨%es0, HS0⟩, ⟨%es1, HS1⟩⟩
    isplitl [HS0 HS1 Hg]
    · isplitl [HS0 HS1]
      · isplitl [HS0]
        · unfold owns; iexists _; isplitr
          swap; · iexact HS0
          ipureintro; exact left_by _ _ _ (by sl_kernel_rfl) v0
        unfold owns; iexists _; isplitr
        swap; · iexact HS1
        ipureintro; exact left_by _ _ _ (by sl_kernel_rfl) v1
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact left_by _ _ _ (by sl_kernel_rfl) (v4.trans (by rw [pointOut, if_neg h1]))

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The obligation of the body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch's invariant is the one before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The invariant after the last point gives the launch's back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact Phi_forget m c _ _

set_option backward.isDefEq.respectTransparency.types false in
set_option maxHeartbeats 800000 in
/-- The launch: every run of `main` ends, with the arrays as the proof data says, the later host lines done and every
    counter zero. -/
theorem run_quiet : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiet m ρ)

/-- The frame: the arguments end as they began and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.KernelIdeal.Hand

end
-- ==== Proof.RI.Frame.lean ====
/-
The reference program leaves its four arguments as they were: no operation before the loop, in the
loop, or after it writes an argument. The program has no semaphore, so every counter is zero at its end.
-/
module

public import proofs.«01_k».proof.Proof.Gen.ReferenceIdeal.Run
public import Idealize.ShloMosaic.Lib.Quiescent

@[expose] public section

set_option maxRecDepth 16384

noncomputable section

namespace Cert.ReferenceIdeal.Hand

open Idealize.ShloMosaic Idealize.ShloMosaic.TcCoe
open Idealize.SL Idealize.SL.Sem
open Idealize.ShloMosaic.StableHlo
open Cert.ReferenceIdeal Cert.ReferenceIdeal.Gen Cert.ReferenceIdeal.Value

variable {F : FTy → Type} [FloatOps F]

/-- The buffers written before the loop. -/
abbrev headWrites : List (Ref sig .tc) :=
  hostOps0_W ++ hostOps0_1_W ++ hostOps0_2_W ++ hostOps0_3_W ++ hostOps0_4_W ++ hostOps0_5_W ++ hostOps0_6_W ++ hostOps0_7_W
    ++ hostOps0_8_W ++ hostOps0_9_W ++ hostOps0_10_W

/-- The buffers written in one trip of the loop. -/
abbrev tripWrites : List (Ref sig .tc) :=
  condOps_W ++ while0Ops0_W ++ while0Ops0_1_W ++ while0Ops0_2_W ++ while0Ops0_3_W ++ while0Ops0_4_W ++ while0Ops0_5_W
    ++ while0Ops0_6_W ++ while0Ops0_7_W ++ while0Ops0_8_W

/-- A buffer that nothing before the loop writes enters the loop as it was launched. -/
theorem entry_keep (m : (ℓ : Loc nD τ sig) → Buf (Elt F) ℓ) (c : Dev nD) (r : Ref sig .tc) (h : r ∉ headWrites) :
    entryContents preI m c (Proc.devRef .tc r) = launchContents m c (Proc.devRef .tc r) := by
  simp only [headWrites, List.mem_append, not_or] at h
  obtain ⟨⟨⟨⟨⟨⟨⟨⟨⟨⟨h0, h1⟩, h2⟩, h3⟩, h4⟩, h5⟩, h6⟩, h7⟩, h8⟩, h9⟩, h10⟩ := h
  simp only [entryContents, afterL_cons, afterL_nil]
  rw [after_of_writes_sub _ _ hostOps0_10_writes h10, after_of_writes_sub _ _ hostOps0_9_writes h9,
    after_of_writes_sub _ _ hostOps0_8_writes h8, after_of_writes_sub _ _ hostOps0_7_writes h7,
    after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- A buffer that no trip writes is the same before every trip. -/
theorem trips_keep (m : (ℓ : Loc nD τ sig) → Buf (Elt F) ℓ) (c : Dev nD) (r : Ref sig .tc) (h : r ∉ tripWrites) (n : ℕ) :
    after condOps (atK m n c) (Proc.devRef .tc r) = entryContents preI m c (Proc.devRef .tc r) := by
  simp only [tripWrites, List.mem_append, not_or] at h
  obtain ⟨⟨⟨⟨⟨⟨⟨⟨⟨hc, h0⟩, h1⟩, h2⟩, h3⟩, h4⟩, h5⟩, h6⟩, h7⟩, h8⟩ := h
  induction n with
  | zero => rw [after_of_writes_sub _ _ condOps_writes hc]; rfl
  | succ n ih =>
    rw [after_of_writes_sub _ _ condOps_writes hc, show atK m (n + 1) c = afterL bodyI (after condOps (atK m n c)) from rfl]
    simp only [afterL_cons, afterL_nil]
    rw [after_of_writes_sub _ _ while0Ops0_8_writes h8, after_of_writes_sub _ _ while0Ops0_7_writes h7,
      after_of_writes_sub _ _ while0Ops0_6_writes h6, after_of_writes_sub _ _ while0Ops0_5_writes h5,
      after_of_writes_sub _ _ while0Ops0_4_writes h4, after_of_writes_sub _ _ while0Ops0_3_writes h3,
      after_of_writes_sub _ _ while0Ops0_2_writes h2, after_of_writes_sub _ _ while0Ops0_1_writes h1,
      after_of_writes_sub _ _ while0Ops0_writes h0, ih]
    rfl

/-- The contents before the operations that follow the loop. -/
abbrev atEnd (m : (ℓ : Loc nD τ sig) → Buf (Elt F) ℓ) (c : Dev nD) : Valuation τ sig (Elt F) := after condOps (atK m 511 c)

/-- A buffer written neither before the loop nor in it holds its launch contents when the loop is done. -/
theorem atEnd_keep (m : (ℓ : Loc nD τ sig) → Buf (Elt F) ℓ) (c : Dev nD) (r : Ref sig .tc) (h : r ∉ headWrites) (h' : r ∉ tripWrites) :
    atEnd m c (Proc.devRef .tc r) = m ((c.tc : Thread nD τ).loc r) := by
  rw [atEnd, trips_keep m c r h', entry_keep m c r h]

variable (m : (ℓ : Loc nD τ sig) → Buf (Elt F) ℓ) (ρ : Dev nD → PrngReg)

/-- The operations after the loop write no argument. -/
theorem final_args (c : Dev nD) :
    finalContents condOps preI bodyI postI 511 m c (Proc.devRef .tc main_arg0) = m ((c.tc : Thread nD τ).loc main_arg0)
    ∧ finalContents condOps preI bodyI postI 511 m c (Proc.devRef .tc main_arg1) = m ((c.tc : Thread nD τ).loc main_arg1)
    ∧ finalContents condOps preI bodyI postI 511 m c (Proc.devRef .tc main_arg2) = m ((c.tc : Thread nD τ).loc main_arg2)
    ∧ finalContents condOps preI bodyI postI 511 m c (Proc.devRef .tc main_arg3) = m ((c.tc : Thread nD τ).loc main_arg3) := by
  simp only [finalContents, postI, afterL_cons, afterL_nil]
  refine ⟨Eq.trans ?_ (atEnd_keep m c main_arg0 (by decide +kernel) (by decide +kernel)),
    Eq.trans ?_ (atEnd_keep m c main_arg1 (by decide +kernel) (by decide +kernel)),
    Eq.trans ?_ (atEnd_keep m c main_arg2 (by decide +kernel) (by decide +kernel)),
    Eq.trans ?_ (atEnd_keep m c main_arg3 (by decide +kernel) (by decide +kernel))⟩ <;>
  (unfold atEnd; after_reads_simp)

/-- The reference's run: every argument unchanged, every semaphore counter at zero. -/
theorem frame_main : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run _ _ _).mono (fun r h => ⟨fun c => ?_, Idealize.ShloMosaic.sem_eq_zero_of_no_sems (by decide) r.2⟩) (run_fold m ρ)
  obtain ⟨h0, h1, h2, h3⟩ := final_args m c
  exact ⟨(h c main_arg0 rfl).trans h0, (h c main_arg1 rfl).trans h1, (h c main_arg2 rfl).trans h2, (h c main_arg3 rfl).trans h3⟩

end Cert.ReferenceIdeal.Hand

end
-- ==== Proof.V.Maths.lean ====
/-
The mathematics of the two programs, away from both: the logarithm of a sum of exponentials on the extended
reals, the doubling scan, and the table of forward log-probabilities.
-/
module

public import Idealize.ShloMosaic.PureOps.Ideal

@[expose] public section

noncomputable section

namespace Cert.Maths

open Idealize.ShloMosaic

/-! ## Exponential and logarithm -/

/-- The exponential is never negative. -/
theorem exp_nonneg (a : EReal) : 0 ≤ Ideal.exp a := by
  induction a with
  | bot => simp
  | top => simp
  | coe r => simpa using (Real.exp_pos r).le

/-- The logarithm of zero is minus infinity. -/
theorem log_zero : Ideal.log 0 = ⊥ := by
  rw [← EReal.coe_zero, Ideal.log_coe, if_pos le_rfl]

/-- The logarithm undoes the exponential, at the infinities too. -/
theorem log_exp (a : EReal) : Ideal.log (Ideal.exp a) = a := by
  induction a with
  | bot => rw [Ideal.exp_bot, log_zero]
  | top => simp
  | coe r => rw [Ideal.exp_coe, Ideal.log_coe, if_neg (not_le.2 (Real.exp_pos r)), Real.log_exp]

/-- The exponential undoes the logarithm of what is not negative. -/
theorem exp_log {a : EReal} (h : 0 ≤ a) : Ideal.exp (Ideal.log a) = a := by
  induction a with
  | bot => exact absurd h (by simp)
  | top => simp
  | coe r =>
    have hr : 0 ≤ r := by exact_mod_cast h
    rcases hr.eq_or_lt with rfl | hr
    · rw [EReal.coe_zero, log_zero, Ideal.exp_bot]
    · rw [Ideal.log_coe, if_neg (not_le.2 hr), Ideal.exp_coe, Real.exp_log hr]

/-- The larger plus `log (1 + exp (-|a - b|))`, the form that does not overflow. -/
def logAdd (a b : EReal) : EReal := max a b + Ideal.log1p (Ideal.exp (0 - max (a - b) (-(a - b))))

/-- For real numbers that form is the logarithm of the sum of the exponentials. -/
theorem logAdd_real (r s : ℝ) :
    max r s + Real.log (1 + Real.exp (0 - max (r - s) (-(r - s)))) = Real.log (Real.exp r + Real.exp s) := by
  rcases le_total r s with h | h
  · rw [max_eq_right h, max_eq_right (by linarith)]
    nth_rewrite 1 [← Real.log_exp s]
    rw [← Real.log_mul (Real.exp_pos s).ne' (by positivity), mul_add, ← Real.exp_add, mul_one]
    congr 1; rw [add_comm]; congr 2; ring
  · rw [max_eq_left h, max_eq_left (by linarith)]
    nth_rewrite 1 [← Real.log_exp r]
    rw [← Real.log_mul (Real.exp_pos r).ne' (by positivity), mul_add, ← Real.exp_add, mul_one]
    congr 2; ring_nf

/-- `log (1 + 0)` is zero. -/
theorem log1p_zero : Ideal.log1p 0 = 0 := by
  rw [Ideal.log1p, add_zero, ← EReal.coe_one, Ideal.log_coe, if_neg (by norm_num), Real.log_one, EReal.coe_zero]

/-- On all extended reals it is the logarithm of the sum of the exponentials. -/
theorem logAdd_eq (a b : EReal) : logAdd a b = Ideal.log (Ideal.exp a + Ideal.exp b) := by
  unfold logAdd
  induction a with
  | bot =>
    induction b with
    | bot => simp [log_zero]
    | top => simp [log1p_zero]
    | coe s => simp [log1p_zero, Real.exp_pos]
  | top =>
    induction b with
    | bot => simp [log1p_zero]
    | top => simp [log1p_zero]
    | coe s => simp [log1p_zero]
  | coe r =>
    induction b with
    | bot => simp [log1p_zero, Real.exp_pos]
    | top => simp [log1p_zero]
    | coe s =>
      have hm : ∀ x y : ℝ, max (x : EReal) (y : EReal) = ((max x y : ℝ) : EReal) := fun x y =>
        ((EReal.coe_strictMono.monotone).map_max).symm
      rw [← EReal.coe_sub, ← EReal.coe_neg, hm, hm, ← EReal.coe_zero, ← EReal.coe_sub, Ideal.exp_coe, Ideal.exp_coe,
        Ideal.exp_coe, Ideal.log1p, ← EReal.coe_one, ← EReal.coe_add, ← EReal.coe_add, Ideal.log_coe, Ideal.log_coe,
        if_neg (not_le.2 (by positivity)), if_neg (not_le.2 (by positivity)), ← EReal.coe_add, logAdd_real]

/-- Its exponential is the sum of the exponentials. -/
theorem exp_logAdd (a b : EReal) : Ideal.exp (logAdd a b) = Ideal.exp a + Ideal.exp b := by
  rw [logAdd_eq, exp_log (add_nonneg (exp_nonneg a) (exp_nonneg b))]

/-! ## The doubling scan -/

section Scan
variable {M : Type} [AddCommMonoid M]

/-- A sequence moved `k` places up, with `z` in the first `k`. -/
def up (k : ℕ) (z : M) (x : ℕ → M) (n : ℕ) : M := if n < k then z else x (n - k)

/-- The sum of the last `k` terms up to `n`, fewer where the sequence has just begun. -/
def window (k : ℕ) (x : ℕ → M) (n : ℕ) : M := ∑ l ∈ Finset.range (min k (n + 1)), x (n - l)

/-- A window of one is the term itself. -/
theorem window_one (x : ℕ → M) : window 1 x = x := by
  funext n; simp [window]

/-- A window and the window `k` places down make the window twice as long. -/
theorem window_double (k : ℕ) (x : ℕ → M) (n : ℕ) : window k x n + up k 0 (window k x) n = window (2 * k) x n := by
  unfold up window
  split
  · next h => rw [add_zero, min_eq_right (by omega), min_eq_right (by omega)]
  · next h =>
    rw [show min (2 * k) (n + 1) = min k (n + 1) + min k (n - k + 1) by omega, Finset.sum_range_add]
    congr 1
    refine Finset.sum_congr rfl fun l _ => ?_
    rw [show min k (n + 1) = k by omega, show n - k - l = n - (k + l) by omega]

/-- A window that reaches back to the beginning is the sum of all terms so far. -/
theorem window_all (k : ℕ) (x : ℕ → M) (n : ℕ) (h : n < k) : window k x n = ∑ l ∈ Finset.range (n + 1), x l := by
  rw [window, min_eq_right (by omega), ← Finset.sum_range_reflect]
  refine Finset.sum_congr rfl fun l hl => ?_
  have := Finset.mem_range.1 hl
  congr 1; omega

/-- The sums of a sequence moved one place up are the sums of the terms strictly before. -/
theorem sum_up_one (x : ℕ → M) (n : ℕ) : ∑ l ∈ Finset.range (n + 1), up 1 0 x l = ∑ l ∈ Finset.range n, x l := by
  rw [Finset.sum_range_succ']
  simp [up]

end Scan

/-- The logarithm of a window of exponentials of `f`. -/
def joined (k : ℕ) (f : ℕ → EReal) (n : ℕ) : EReal := Ideal.log (window k (fun l => Ideal.exp (f l)) n)

/-- Its exponential is the window. -/
theorem exp_joined (k : ℕ) (f : ℕ → EReal) (n : ℕ) :
    Ideal.exp (joined k f n) = window k (fun l => Ideal.exp (f l)) n :=
  exp_log (Finset.sum_nonneg fun _ _ => exp_nonneg _)

/-- A window of one is the term itself. -/
theorem joined_one (f : ℕ → EReal) : joined 1 f = f := by
  funext n; rw [joined, window_one, log_exp]

/-- Joining with the windows `k` places down makes the window twice as long; where there is none, minus infinity is joined. -/
theorem joined_double (k : ℕ) (f : ℕ → EReal) (n : ℕ) :
    logAdd (joined k f n) (up k ⊥ (joined k f) n) = joined (2 * k) f n := by
  rw [logAdd_eq, exp_joined, joined, ← window_double]
  unfold up
  split
  · rw [Ideal.exp_bot]
  · rw [exp_joined]

/-! ## The forward table -/

/-- The sum of the first `n` emissions. -/
def ahead (E : ℕ → EReal) (n : ℕ) : EReal := ∑ l ∈ Finset.range n, E l

/-- One step in time: from the row `r` with its blanks `B` to the row whose emissions are `E`. -/
def step (E B r : ℕ → EReal) (n : ℕ) : EReal :=
  ahead E n + Ideal.log (∑ l ∈ Finset.range (n + 1), Ideal.exp (r l + B l - ahead E l))

/-- The forward table: row `t`, place `n`. -/
def table (E B : ℕ → ℕ → EReal) : ℕ → ℕ → EReal
  | 0 => ahead (E 0)
  | t + 1 => step (E (t + 1)) (B t) (table E B t)

/-- `ahead` looks only at the places before. -/
theorem ahead_congr {E E' : ℕ → EReal} {n : ℕ} (h : ∀ l < n, E l = E' l) : ahead E n = ahead E' n :=
  Finset.sum_congr rfl fun l hl => h l (Finset.mem_range.1 hl)

/-- `step` looks only at emissions before its place and at the row and blanks up to it. -/
theorem step_congr {E E' B B' r r' : ℕ → EReal} {n : ℕ} (hE : ∀ l < n, E l = E' l) (hB : ∀ l ≤ n, B l = B' l)
    (hr : ∀ l ≤ n, r l = r' l) : step E B r n = step E' B' r' n := by
  unfold step
  rw [ahead_congr hE]
  congr 2
  refine Finset.sum_congr rfl fun l hl => ?_
  have hl := Finset.mem_range.1 hl
  rw [hB l (by omega), hr l (by omega), ahead_congr fun i hi => hE i (by omega)]

/-! ## Clipped words -/

/-- A signed word brought between `lo` and `hi`. -/
def clip (lo hi : ℕ) (w : BitVec 32) : ℕ := (min (max w.toInt lo) hi).toNat

/-- A clipped word is at most the upper bound. -/
theorem clip_le (lo hi : ℕ) (w : BitVec 32) : clip lo hi w ≤ hi := by unfold clip; omega

/-- A clipped word is at least the lower bound. -/
theorem le_clip {lo hi : ℕ} (h : lo ≤ hi) (w : BitVec 32) : lo ≤ clip lo hi w := by unfold clip; omega

end Cert.Maths

end
-- ==== Proof.V.Lanes.lean ====
/-
The kernel's row operations on the extended reals, lane by lane.
-/
module

public import proofs.«01_k».proof.Proof.KI.Rows
public import proofs.«01_k».proof.Proof.V.Maths
public import Idealize.ShloMosaic.Lib.Pointwise

@[expose] public section

set_option maxRecDepth 16384

noncomputable section

namespace Cert.KernelIdeal.Hand

open Cert.KernelIdeal.Gen Cert.Maths
open Idealize.ShloMosaic Idealize.ShloMosaic.TcCoe

/-- Lanes `0 … w - 1` of the row `x` are the first `w` terms of `f`. -/
def Is (w : ℕ) (x : FVec Ideal S1x128 .f32) (f : ℕ → EReal) : Prop :=
  ∀ n (h : n < 128), n < w → (x (ix2 0 ⟨n, h⟩) : EReal) = f n

theorem Is.congr {w : ℕ} {x : FVec Ideal S1x128 .f32} {f g : ℕ → EReal} (h : Is w x f) (e : ∀ n < w, f n = g n) : Is w x g :=
  fun n hn hw => (h n hn hw).trans (e n hw)

/-- The constant zero is zero. -/
theorem zeroC_eq : (zeroC : Ideal .f32) = (0 : EReal) := Ideal.ofBits_zero_f32

/-- The named constant stands for minus infinity. -/
theorem maskC_eq : (maskC : Ideal .f32) = (⊥ : EReal) := IdealRules.named_const.ideal_named_scalar _ _ _ _ rfl

/-- The moved row's lanes are the moved sequence. -/
theorem Is.shift {w : ℕ} {x : FVec Ideal S1x128 .f32} {f : ℕ → EReal} (h : Is w x f) (k : ℕ) (hs) (hc) (z : Ideal .f32) :
    Is (w + k) (shift k hs hc z x) (up k z f) := by
  intro n hn hw
  unfold Hand.shift up
  rw [concatenate_pair_apply]
  split
  · next hk => rw [if_pos (show n < k from hk)]; rfl
  · next hk =>
    have hk : ¬ n < k := hk
    rw [if_neg hk, ← h (n - k) (by omega) (by omega), Pointwise.extractStridedSlice_apply]
    refine congrArg x (funext fun a => Fin.ext ?_)
    fin_cases a
    · rfl
    · exact Nat.zero_add _

/-- Adding a row to itself moved is one doubling of a sum window. -/
theorem Is.addUp {w k : ℕ} {x : FVec Ideal S1x128 .f32} {f : ℕ → EReal} (h : Is w x (window k f)) (hs) (hc) :
    Is w (addUp k hs hc x) (window (2 * k) f) := by
  intro n hn hw
  rw [← window_double, ← h n hn hw, ← zeroC_eq, ← (h.shift k hs hc zeroC) n hn (by omega)]
  rfl

/-- The doubling sums are the sums of the lanes below. -/
theorem Is.below {w : ℕ} {x : FVec Ideal S1x128 .f32} {f : ℕ → EReal} (h : Is w x f) : Is (w + 1) (below x) (ahead f) := by
  have h0 : Is (w + 1) (Hand.shift 1 slices_S1x128_o0_0_S1x127 concatenates_S1x1_S1x127_S1x128_d1 zeroC x) (window 1 (up 1 0 f)) := by
    rw [window_one, ← zeroC_eq]; exact h.shift 1 _ _ _
  intro n hn hw
  unfold Hand.below
  refine (((((((h0.addUp _ _).addUp _ _).addUp _ _).addUp _ _).addUp _ _).addUp _ _).addUp _ _ n hn hw).trans ?_
  exact (window_all _ _ _ (show n < _ from hn)).trans (sum_up_one _ _)

/-- The join of two lanes. -/
theorem logAdd_apply (x s : FVec Ideal S1x128 .f32) (i : S1x128.Idx) :
    (logAdd x s i : EReal) = Maths.logAdd (x i) (s i) := by
  have e : (logAdd x s i : EReal) = max (x i) (s i) + Ideal.log1p (Ideal.exp ((zeroC : Ideal .f32) - max (x i - s i) (-(x i - s i)) : EReal)) := rfl
  rw [e, zeroC_eq]
  rfl

/-- Joining a row to itself moved is one doubling of a window of exponentials. -/
theorem Is.joinUp {w k : ℕ} {x : FVec Ideal S1x128 .f32} {f : ℕ → EReal} (h : Is w x (joined k f)) (hs) (hc) :
    Is w (joinUp k hs hc x) (joined (2 * k) f) := by
  intro n hn hw
  have hm := (h.shift k hs hc maskC) n hn (by omega)
  rw [maskC_eq] at hm
  rw [← joined_double, ← hm, ← h n hn hw]
  exact logAdd_apply _ _ _

/-- The doubling joins are the logarithms of the running sums of exponentials. -/
theorem Is.running {w : ℕ} {x : FVec Ideal S1x128 .f32} {f : ℕ → EReal} (h : Is w x f) :
    Is w (running x) (fun n => Ideal.log (∑ l ∈ Finset.range (n + 1), Ideal.exp (f l))) := by
  have h0 : Is w x (joined 1 f) := by rw [joined_one]; exact h
  intro n hn hw
  unfold Hand.running
  refine (((((((h0.joinUp _ _).joinUp _ _).joinUp _ _).joinUp _ _).joinUp _ _).joinUp _ _).joinUp _ _ n hn hw).trans ?_
  exact congrArg Ideal.log (window_all _ _ _ (show n < _ from hn))

/-- A new row is the step of the table from the row before; of the emissions it looks at one lane fewer. -/
theorem Is.alpha {w : ℕ} {em r bl : FVec Ideal S1x128 .f32} {E R B : ℕ → EReal} (he : Is w em E) (hr : Is (w + 1) r R)
    (hb : Is (w + 1) bl B) : Is (w + 1) (alpha em r bl) (step E B R) := by
  have h := Is.running (x := subf (addf r bl) (Hand.below em)) (w := w + 1) (f := fun n => R n + B n - ahead E n)
    fun n hn hw => by
      show ((r (ix2 0 ⟨n, hn⟩) : EReal) + bl (ix2 0 ⟨n, hn⟩) - Hand.below em (ix2 0 ⟨n, hn⟩) : EReal) = _
      rw [hr n hn hw, hb n hn hw, he.below n hn hw]
  intro n hn hw
  show ((Hand.below em (ix2 0 ⟨n, hn⟩) : EReal) + Hand.running (subf (addf r bl) (Hand.below em)) (ix2 0 ⟨n, hn⟩) : EReal) = _
  rw [h n hn hw, he.below n hn hw]
  rfl

end Cert.KernelIdeal.Hand

end
-- ==== Proof.V.Emit.lean ====
/-
What the kernel picks out of a block of logits: the label's logit by a product with a one-hot row and a sum, the
blank's the same way, and the one-hot row of the label count.
-/
module

public import proofs.«01_k».proof.Proof.V.Lanes

@[expose] public section

set_option maxRecDepth 16384

noncomputable section

namespace Cert.KernelIdeal.Hand

open Cert.KernelIdeal.Gen Cert.Maths
open Idealize.ShloMosaic Idealize.ShloMosaic.TcCoe

/-- Small numbers are equal as words only if they are equal. -/
theorem word_eq_iff {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A choice on the equality of two small numbers' words. -/
theorem select_word_eq {α : Type} {a b : ℕ} (ha : a < 2 ^ 32) (hb : b < 2 ^ 32) (x y : α) :
    Scalar.select (IntOp.cmpi .eq (BitVec.ofNat 32 a) (BitVec.ofNat 32 b)) x y = if a = b then x else y := by
  by_cases h : a = b
  · subst h; simp [Scalar.select, IntOp.cmpi]
  · have h' : ¬ BitVec.ofNat 32 a = BitVec.ofNat 32 b := fun e => h ((word_eq_iff ha hb).1 e)
    rw [if_neg h, Scalar.select, if_neg]
    have hb : (BitVec.ofNat 32 a == BitVec.ofNat 32 b) = false := beq_eq_false_iff_ne.2 h'
    show ¬ BitVec.ofBool (BitVec.ofNat 32 a == BitVec.ofNat 32 b) = 1#1
    rw [hb]; decide

/-- The emission at row `i`, lane `l` is the logit of that lane's label. -/
theorem emit_apply (x0 : Vec Ideal S1x16x101x1024 .f32) (x1 : Vec Ideal S1x101x1 .i32) (i : Fin 16) (l : Fin 128)
    (hl : l.val < 101) (v : Fin 1024) (hv : x1 (ix3 0 ⟨l.val, hl⟩ 0) = BitVec.ofNat 32 v.val) :
    (k0_pay5 x0 x1 (ix2 i l) : EReal) = x0 (ix4 0 i ⟨l.val, hl⟩ v) := by
  pointwise [k0_pay5, k0_pay3, k0_pay4]
  rw [dif_pos hl]
  show (∑ k : Fin 1024, Scalar.select (IntOp.cmpi .eq (BitVec.ofNat 32 k.val) (x1 (ix3 0 ⟨l.val, hl⟩ 0)))
    (x0 (ix4 0 i ⟨l.val, hl⟩ k) : EReal) 0) = _
  rw [hv, Finset.sum_eq_single v]
  · rw [select_word_eq (by omega) (by omega), if_pos rfl]
  · intro b _ hb
    rw [select_word_eq (by omega) (by omega), if_neg fun e => hb (Fin.ext e)]
  · intro h; exact absurd (Finset.mem_univ _) h

/-- The blank at row `i`, lane `l` is the logit of class zero. -/
theorem blank_apply (x0 : Vec Ideal S1x16x101x1024 .f32) (i : Fin 16) (l : Fin 128) (hl : l.val < 101) :
    (k0_pay6 x0 (ix2 i l) : EReal) = x0 (ix4 0 i ⟨l.val, hl⟩ 0) := by
  pointwise [k0_pay6, k0_pay3, k0_pay4]
  rw [dif_pos hl]
  show (∑ k : Fin 1024, Scalar.select (IntOp.cmpi .eq (BitVec.ofNat 32 k.val) 0#32) (x0 (ix4 0 i ⟨l.val, hl⟩ k) : EReal) 0) = _
  rw [Finset.sum_eq_single 0]
  · rfl
  · intro b _ hb
    have h0 : ¬ b.val = 0 := fun e => hb (Fin.ext e)
    exact (select_word_eq (b := 0) (by omega) (by omega) _ _).trans (if_neg h0)
  · intro h; exact absurd (Finset.mem_univ _) h

/-- The one-hot row of a small number. -/
theorem oneHot_apply (u : ℕ) (hu : u < 2 ^ 32) (l : Fin 128) :
    (k0_pay7 (F := Ideal) (BitVec.ofNat 32 u) (ix2 0 l) : EReal) = if l.val = u then 1 else 0 := by
  pointwise [k0_pay7]
  exact select_word_eq (by omega) hu _ _

end Cert.KernelIdeal.Hand

end
-- ==== Proof.V.Block.lean ====
/-
One grid point's work as mathematics: from the forward table's row before the block to its last row in the block,
and the totals' gain.
-/
module

public import proofs.«01_k».proof.Proof.V.Emit
public import proofs.«01_k».proof.Proof.KI.Runs

@[expose] public section

set_option maxRecDepth 16384

noncomputable section

namespace Cert.KernelIdeal.Hand

open Cert.KernelIdeal.Gen Cert.Maths
open Idealize.ShloMosaic Idealize.ShloMosaic.TcCoe

/-- A block of sixteen rows holds, in `w` lanes, the rows of `f` from time `t` on. -/
def IsRows (w : ℕ) (x : FVec Ideal S16x128 .f32) (t : ℕ) (f : ℕ → ℕ → EReal) : Prop :=
  ∀ i < 16, Is w (rowOf x i) (f (t + i))

/-- The block's rows in turn are the table's. -/
theorem rows_is {e b : FVec Ideal S16x128 .f32} {r : FVec Ideal S1x128 .f32} {t : ℕ} {E B : ℕ → ℕ → EReal}
    (he : IsRows 100 e t E) (hb : IsRows 101 b t B) (hr : Is 101 r (table E B t)) :
    ∀ i < 16, Is 101 (rows e b r i) (table E B (t + i))
  | 0, _ => hr
  | i + 1, hi => (he (i + 1) hi).alpha (rows_is he hb hr i (by omega)) (hb i (by omega))

/-- The block's first row. -/
theorem first_is {tb : ℕ} (htb : tb < 32) {e : FVec Ideal S16x128 .f32} {r p : FVec Ideal S1x128 .f32} {E B : ℕ → ℕ → EReal}
    (he : Is 100 (rowOf e 0) (E (16 * tb))) (hr : tb ≠ 0 → Is 101 r (table E B (16 * tb - 1)))
    (hp : tb ≠ 0 → Is 101 p (B (16 * tb - 1))) : Is 101 (first (BitVec.ofNat 32 tb) e r p) (table E B (16 * tb)) := by
  have e0 : first (BitVec.ofNat 32 tb) e r p = if tb = 0 then below (rowOf e 0) else alpha (rowOf e 0) r p :=
    select_word_eq (b := 0) (by omega) (by omega) _ _
  rw [e0]
  split
  · next h => subst h; exact he.below
  · next h =>
    rw [show 16 * tb = (16 * tb - 1) + 1 by omega] at he ⊢
    exact he.alpha (hr h) (hp h)

/-- One row's gift to the totals: at the wanted place and time its own entry, else nothing. -/
theorem hit_apply {tb i T u : ℕ} (htb : tb < 32) (hi : i < 16) (hT : T < 512) (hu : u < 101) {r : FVec Ideal S1x128 .f32}
    {f : ℕ → EReal} (hr : Is 101 r f) (n : Fin 128) :
    (hit (BitVec.ofNat 32 tb) (BitVec.ofNat 32 T) (k0_pay7 (F := Ideal) (BitVec.ofNat 32 u)) i r (ix2 0 n) : EReal)
      = if n.val = u ∧ 16 * tb + i = T then f n.val else 0 := by
  have ew : Scalar.addi (Scalar.muli (BitVec.ofNat 32 tb) 16#32) (BitVec.ofNat 32 i) = BitVec.ofNat 32 (16 * tb + i) := by
    show BitVec.ofNat 32 tb * BitVec.ofNat 32 16 + BitVec.ofNat 32 i = _
    rw [← BitVec.ofNat_mul, ← BitVec.ofNat_add, Nat.mul_comm]
  have e0 : hit (BitVec.ofNat 32 tb) (BitVec.ofNat 32 T) (k0_pay7 (F := Ideal) (BitVec.ofNat 32 u)) i r
      = if 16 * tb + i = T then mulf r (k0_pay7 (F := Ideal) (BitVec.ofNat 32 u)) else broadcast S1x128 zeroC := by
    unfold hit; rw [ew]; exact select_word_eq (by omega) (by omega) _ _
  rw [e0]
  by_cases h : 16 * tb + i = T
  · rw [if_pos h]
    show (r (ix2 0 n) : EReal) * k0_pay7 (F := Ideal) (BitVec.ofNat 32 u) (ix2 0 n) = _
    rw [oneHot_apply u (by omega)]
    by_cases hn : n.val = u
    · rw [if_pos hn, if_pos ⟨hn, h⟩, mul_one]; exact hr n.val n.isLt (by omega)
    · rw [if_neg hn, if_neg fun h => hn h.1, mul_zero]
  · rw [if_neg h, if_neg fun h' => h h'.2]; exact zeroC_eq

/-- The block's gift to the totals after its rows `0 … i`. -/
theorem hits_apply {tb T u : ℕ} (htb : tb < 32) (hT : T < 512) (hu : u < 101) {e b : FVec Ideal S16x128 .f32}
    {r : FVec Ideal S1x128 .f32} {A : ℕ → ℕ → EReal} (hr : ∀ i < 16, Is 101 (rows e b r i) (A (16 * tb + i))) (n : Fin 128) :
    ∀ i < 16, (hits (BitVec.ofNat 32 tb) (BitVec.ofNat 32 T) (k0_pay7 (F := Ideal) (BitVec.ofNat 32 u)) e b r i (ix2 0 n) : EReal)
      = if n.val = u ∧ 16 * tb ≤ T ∧ T ≤ 16 * tb + i then A T n.val else 0
  | 0, _ => by
    show ((zeroC : Ideal .f32) : EReal) + hit _ _ _ 0 r (ix2 0 n) = _
    rw [zeroC_eq, zero_add]
    refine (hit_apply htb (by omega) hT hu (hr 0 (by omega) : Is 101 r _) n).trans ?_
    by_cases h : n.val = u ∧ 16 * tb + 0 = T
    · rw [if_pos h, if_pos ⟨h.1, by omega, by omega⟩, h.2]
    · rw [if_neg h, if_neg fun h' => h ⟨h'.1, by omega⟩]
  | i + 1, hi => by
    show (hits _ _ _ e b r i (ix2 0 n) : EReal) + hit _ _ _ (i + 1) (rows e b r (i + 1)) (ix2 0 n) = _
    rw [hit_apply htb hi hT hu (hr (i + 1) hi), hits_apply htb hT hu hr n i (by omega)]
    by_cases h : n.val = u ∧ 16 * tb + (i + 1) = T
    · rw [if_pos h, if_neg (by omega), if_pos ⟨h.1, by omega, by omega⟩, zero_add, h.2]
    · rw [if_neg h, add_zero]
      by_cases h' : n.val = u ∧ 16 * tb ≤ T ∧ T ≤ 16 * tb + i
      · rw [if_pos h', if_pos ⟨h'.1, h'.2.1, by omega⟩]
      · rw [if_neg h', if_neg fun h2 => h' ⟨h2.1, h2.2.1, by omega⟩]

/-- What holds between points, before the time `t`: the totals have the wanted entry if its time has passed, the row is the
    table's last and the blanks are that row's. -/
structure Upto (E B : ℕ → ℕ → EReal) (T u t : ℕ) (s : Vec Ideal S1x1x128 .f32 × Vec Ideal S1x128 .f32 × Vec Ideal S1x128 .f32) : Prop where
  total : ∀ n : Fin 128, (s.1 (ix3 0 0 n) : EReal) = if n.val = u ∧ T < t then table E B T n.val else 0
  row : t ≠ 0 → Is 101 s.2.1 (table E B (t - 1))
  blank : t ≠ 0 → Is 101 s.2.2 (B (t - 1))

/-- A point takes what holds before its sixteen times to what holds after them. -/
theorem Upto.point {E B : ℕ → ℕ → EReal} {T u tb : ℕ} (htb : tb < 32) (hT : T < 512) (hu : u < 101) (i : grid0.Coords)
    (hi : tbw i = BitVec.ofNat 32 tb) {x0 : Vec Ideal S1x16x101x1024 .f32} {x1 : Vec Ideal S1x101x1 .i32} {x2 x3 : Vec Ideal S4 .i32}
    (h2 : word x2 i = BitVec.ofNat 32 T) (h3 : word x3 i = BitVec.ofNat 32 u)
    (he : IsRows 100 (k0_pay5 x0 x1) (16 * tb) E) (hb : IsRows 101 (k0_pay6 x0) (16 * tb) B)
    {s : Vec Ideal S1x1x128 .f32 × Vec Ideal S1x128 .f32 × Vec Ideal S1x128 .f32} (h : Upto E B T u (16 * tb) s) :
    Upto E B T u (16 * (tb + 1)) (outOf i x0 x1 x2 x3 s.1 s.2.1 s.2.2, rowOut i x0 x1 s.2.1 s.2.2, blankOut x0) := by
  have hf : Is 101 (firstOf i x0 x1 s.2.1 s.2.2) (table E B (16 * tb)) := by
    unfold firstOf; rw [hi]
    exact first_is htb (he 0 (by omega)) (fun h0 => h.row (by omega)) (fun h0 => h.blank (by omega))
  have hrows := rows_is he hb hf
  refine ⟨fun n => ?_, fun _ => ?_, fun _ => ?_⟩
  · have e1 : (outOf i x0 x1 x2 x3 s.1 s.2.1 s.2.2 (ix3 0 0 n) : EReal)
        = s.1 (ix3 0 0 n) + hits (tbw i) (word x2 i) (k0_pay7 (F := Ideal) (word x3 i)) (k0_pay5 x0 x1) (k0_pay6 x0)
            (firstOf i x0 x1 s.2.1 s.2.2) 15 (ix2 0 n) := by
      unfold outOf; pointwise [k0_pay2]
    refine e1.trans ?_
    rw [hi, h2, h3, hits_apply htb hT hu hrows n 15 (by omega), h.total n]
    by_cases hn : n.val = u
    · by_cases h1 : T < 16 * tb
      · rw [if_pos ⟨hn, h1⟩, if_neg (by omega), if_pos ⟨hn, by omega⟩, add_zero]
      · by_cases h4 : T < 16 * (tb + 1)
        · rw [if_neg (by omega), if_pos ⟨hn, by omega, by omega⟩, if_pos ⟨hn, h4⟩, zero_add]
        · rw [if_neg (by omega), if_neg (by omega), if_neg (by omega), zero_add]
    · rw [if_neg fun h => hn h.1, if_neg fun h => hn h.1, if_neg fun h => hn h.1, zero_add]
  · have e2 : rowOut i x0 x1 s.2.1 s.2.2 = rows (k0_pay5 x0 x1) (k0_pay6 x0) (firstOf i x0 x1 s.2.1 s.2.2) 15 := by
      unfold rowOut; exact shapeCast_self _ _
    show Is 101 (rowOut i x0 x1 s.2.1 s.2.2) _
    rw [e2]; exact hrows 15 (by omega)
  · have e3 : blankOut x0 = rowOf (k0_pay6 x0) 15 := by
      unfold blankOut; exact shapeCast_self _ _
    show Is 101 (blankOut x0) _
    rw [e3]; exact hb 15 (by omega)

end Cert.KernelIdeal.Hand

end
-- ==== Proof.V.Spec.lean ====
/-
The loss as a function of the four argument arrays, and the words both programs index with.
-/
module

public import proofs.«01_k».proof.Proof.V.Maths
public import Idealize.ShloMosaic.Lib.Pointwise

@[expose] public section

noncomputable section

namespace Cert.Maths

open Idealize.ShloMosaic

/-- The logits' indices: sample, time, place, class. -/
abbrev LogitIdx := (⟨4, ![4, 512, 101, 1024]⟩ : Shape).Idx
/-- The labels' indices: sample, place. -/
abbrev LabelIdx := (⟨2, ![4, 100]⟩ : Shape).Idx
/-- The lengths' indices: sample. -/
abbrev LengthIdx := (⟨1, ![4]⟩ : Shape).Idx

/-- A sample's label at a place, as a class. -/
def label (lab : LabelIdx → BitVec 32) (b : Fin 4) (n : Fin 100) : Fin 1024 :=
  ⟨clip 0 1023 (lab (ix2 b n)), Nat.lt_succ_of_le (clip_le _ _ _)⟩

/-- A sample's emissions: at each time and place the logit of the label. -/
def emit (x : LogitIdx → EReal) (lab : LabelIdx → BitVec 32) (b : Fin 4) (t n : ℕ) : EReal :=
  if h : t < 512 ∧ n < 100 then x (ix4 b ⟨t, h.1⟩ ⟨n, by omega⟩ (label lab b ⟨n, h.2⟩)) else 0

/-- A sample's blanks: at each time and place the logit of class zero. -/
def blank (x : LogitIdx → EReal) (b : Fin 4) (t n : ℕ) : EReal :=
  if h : t < 512 ∧ n < 101 then x (ix4 b ⟨t, h.1⟩ ⟨n, h.2⟩ 0) else 0

/-- The last time of a sample. -/
def lastTime (len : LengthIdx → BitVec 32) (b : Fin 4) : ℕ := clip 1 512 (len (ix1 b)) - 1

/-- The last place of a sample. -/
def lastPlace (ulen : LengthIdx → BitVec 32) (b : Fin 4) : ℕ := clip 1 100 (ulen (ix1 b))

theorem lastTime_lt (len : LengthIdx → BitVec 32) (b : Fin 4) : lastTime len b < 512 := by
  have := clip_le 1 512 (len (ix1 b)); unfold lastTime; omega

theorem lastPlace_lt (ulen : LengthIdx → BitVec 32) (b : Fin 4) : lastPlace ulen b < 101 := by
  have := clip_le 1 100 (ulen (ix1 b)); unfold lastPlace; omega

/-- A sample's forward table at its last time and place. -/
def score (x : LogitIdx → EReal) (lab : LabelIdx → BitVec 32) (len ulen : LengthIdx → BitVec 32) (b : Fin 4) : EReal :=
  table (emit x lab b) (blank x b) (lastTime len b) (lastPlace ulen b)

/-- The loss: the mean score, negated. -/
def loss (x : LogitIdx → EReal) (lab : LabelIdx → BitVec 32) (len ulen : LengthIdx → BitVec 32) : EReal :=
  -(Ideal.div (∑ b, score x lab len ulen b) ((4 : ℝ) : EReal))

/-- The word both programs divide by is four. -/
theorem four_word : Ideal.ofBits .f32 0x40800000#32 = ((4 : ℝ) : EReal) := by
  simp [Ideal.ofBits, Ideal.ieee, -EReal.coe_mul]; norm_num

/-- A quotient's sign may be changed before or after dividing by four. -/
theorem neg_div_four (x : EReal) : Ideal.div (-x) ((4 : ℝ) : EReal) = -(Ideal.div x ((4 : ℝ) : EReal)) := by
  have h : ((4 : ℝ) : EReal) ≠ 0 := by simp
  unfold Ideal.div
  rw [if_neg h, if_neg h, EReal.neg_mul]

/-- Clipping as both programs write it, on words. -/
theorem clip_word {lo hi : ℕ} (h : lo ≤ hi) (hh : hi < 2 ^ 31) (w : BitVec 32) :
    IntOp.minsi (BitVec.ofNat 32 hi) (IntOp.maxsi (BitVec.ofNat 32 lo) w) = BitVec.ofNat 32 (clip lo hi w) := by
  have e : ∀ n < 2 ^ 31, (BitVec.ofNat 32 n).toInt = n := fun n hn => by
    rw [BitVec.toInt_eq_toNat_of_lt, BitVec.toNat_ofNat, Nat.mod_eq_of_lt (by omega)]
    rw [BitVec.toNat_ofNat, Nat.mod_eq_of_lt (by omega)]; omega
  have hc := clip_le lo hi w
  apply BitVec.eq_of_toInt_eq
  rw [e _ (by omega)]
  unfold IntOp.minsi IntOp.maxsi clip
  simp only [BitVec.slt]
  have := e lo (by omega)
  have := e hi (by omega)
  split <;> split <;> simp_all <;> omega

/-- One from a positive small number, on words. -/
theorem word_pred {n : ℕ} (h : 1 ≤ n) : IntOp.subi (BitVec.ofNat 32 n) 1#32 = BitVec.ofNat 32 (n - 1) := by
  obtain ⟨k, rfl⟩ : ∃ k, n = k + 1 := ⟨n - 1, by omega⟩
  show BitVec.ofNat 32 (k + 1) - 1#32 = _
  rw [BitVec.ofNat_add, Nat.add_sub_cancel]
  exact BitVec.add_sub_cancel _ _

end Cert.Maths

end
-- ==== Proof.V.Entry.lean ====
/-
What the launch finds: the three tables the host code makes, and each grid point's blocks of them and of the logits.
-/
module

public import proofs.«01_k».proof.Proof.V.Block
public import proofs.«01_k».proof.Proof.V.Spec
public import proofs.«01_k».proof.Proof.KI.Data
public import Idealize.ShloMosaic.Lib.Claim
public import Idealize.ShloMosaic.Lib.Pipeline.ValueKit

@[expose] public section

set_option maxRecDepth 16384

noncomputable section

namespace Cert.KernelIdeal.Hand

open Cert.KernelIdeal.Gen Cert.Maths
open Idealize.ShloMosaic Idealize.ShloMosaic.TcCoe

variable (m : (ℓ : Loc nD τ sig) → Buf (Elt Ideal) ℓ) (c : Dev nD)

/-- The logits as launched. -/
abbrev logits : LogitIdx → EReal := m ((c.tc : Thread nD τ).loc main_arg0)
/-- The labels as launched. -/
abbrev labels : LabelIdx → BitVec 32 := m ((c.tc : Thread nD τ).loc main_arg1)
/-- The lengths as launched. -/
abbrev lengths : LengthIdx → BitVec 32 := m ((c.tc : Thread nD τ).loc main_arg2)
/-- The label counts as launched. -/
abbrev counts : LengthIdx → BitVec 32 := m ((c.tc : Thread nD τ).loc main_arg3)

/-- The table of last times. -/
theorem times_apply (b : Fin 4) : V m c main_v2 (ix1 b) = BitVec.ofNat 32 (lastTime (lengths m c) b) := by
  have e : V m c main_v2 (ix1 b) = IntOp.subi (IntOp.minsi (BitVec.ofNat 32 512) (IntOp.maxsi (BitVec.ofNat 32 1) (lengths m c (ix1 b)))) 1#32 := by
    simp only [V, V0, hostOps0, hostOps0_1, hostOps0_2, hostOps0_3, hostOps0_4, hostOps0_5, hostOps0_6, List.flatten_cons,
      List.flatten_nil, List.append_nil, List.cons_append, List.nil_append]
    after_results
    pointwise
    rfl
  rw [e, clip_word (by omega) (by omega), word_pred (le_clip (by omega) _)]
  rfl

/-- The table of last places. -/
theorem places_apply (b : Fin 4) : V m c main_v3 (ix1 b) = BitVec.ofNat 32 (lastPlace (counts m c) b) := by
  have e : V m c main_v3 (ix1 b) = IntOp.minsi (BitVec.ofNat 32 100) (IntOp.maxsi (BitVec.ofNat 32 1) (counts m c (ix1 b))) := by
    simp only [V, V0, hostOps0, hostOps0_1, hostOps0_2, hostOps0_3, hostOps0_4, hostOps0_5, hostOps0_6, List.flatten_cons,
      List.flatten_nil, List.append_nil, List.cons_append, List.nil_append]
    after_results
    pointwise
    rfl
  rw [e, clip_word (by omega) (by omega)]
  rfl

/-- The table of labels. -/
theorem labels_apply (b : Fin 4) (l : Fin 101) (hl : l.val < 100) :
    V m c main_v7 (ix3 b l 0) = BitVec.ofNat 32 (label (labels m c) b ⟨l.val, hl⟩).val := by
  have e : V m c main_v7 (ix3 b l 0)
      = IntOp.minsi (BitVec.ofNat 32 1023) (IntOp.maxsi (BitVec.ofNat 32 0) (labels m c (ix2 b ⟨l.val, hl⟩))) := by
    simp only [V, V0, hostOps0, hostOps0_1, hostOps0_2, hostOps0_3, hostOps0_4, hostOps0_5, hostOps0_6, List.flatten_cons,
      List.flatten_nil, List.append_nil, List.cons_append, List.nil_append]
    after_results
    pointwise
    rw [dif_pos hl]
    rfl
  rw [e, clip_word (by omega) (by omega)]
  rfl

theorem at_0 : ∀ t : Fin grid0.N, win0_0.index t = ![t.val / 32, t.val % 32, 0, 0] := by decide +kernel
theorem at_1 : ∀ t : Fin grid0.N, win0_1.index t = ![t.val / 32, 0, 0] := by decide +kernel
theorem at_2 : ∀ t : Fin grid0.N, win0_2.index t = ![0] := by decide +kernel
theorem at_3 : ∀ t : Fin grid0.N, win0_3.index t = ![0] := by decide +kernel
theorem at_4 : ∀ t : Fin grid0.N, win0_4.index t = ![t.val / 32, 0, 0] := by decide +kernel

theorem points_lt (t : Fin cfg0.N) : t.val < 128 := lt_of_lt_of_eq t.isLt (show cfg0.N = 128 from N_0)

/-- The sample of a point. -/
def sample (t : Fin cfg0.N) : Fin 4 := ⟨t.val / 32, by have := points_lt t; omega⟩

/-- A point's block of the logits. -/
theorem logits_block (t : Fin cfg0.N) (i : Fin 16) (l : Fin 101) (v : Fin 1024) :
    (iblk m c 0 t : Vec Ideal S1x16x101x1024 .f32) (ix4 0 i l v)
      = logits m c (ix4 (sample t) ⟨16 * (t.val % 32) + i.val, by omega⟩ l v) := by
  have e := at_0 t
  blk_ext [iblk, V_main_arg0, e]
  rfl

/-- A point's block of the labels. -/
theorem labels_block (t : Fin cfg0.N) (l : Fin 101) :
    (iblk m c 1 t : Vec Ideal S1x101x1 .i32) (ix3 0 l 0) = V m c main_v7 (ix3 (sample t) l 0) := by
  have e := at_1 t
  blk_ext [iblk, e]
  rfl

/-- Every point finds the whole table of last times, -/
theorem times_block (t : Fin cfg0.N) (b : Fin 4) :
    (iblk m c 2 t : Vec Ideal S4 .i32) (ix1 b) = V m c main_v2 (ix1 b) := by
  have e := at_2 t
  blk_ext [iblk, e]

/-- and of last places. -/
theorem places_block (t : Fin cfg0.N) (b : Fin 4) :
    (iblk m c 3 t : Vec Ideal S4 .i32) (ix1 b) = V m c main_v3 (ix1 b) := by
  have e := at_3 t
  blk_ext [iblk, e]

/-- The word a point reads is its sample's. -/
theorem word_at (t : Fin cfg0.N) (x : Vec Ideal S4 .i32) : word x (grid0.coords t) = x (ix1 (sample t)) := by
  have h := points_lt t
  have e : (grid0.coords t 0).val = t.val / 32 % 4 :=
    (fun t : Fin grid0.N => Pipeline.Grid.coords_val t 0 (by decide) rfl) t
  have e2 : k0_off1 (grid0.coords t) 0 = t.val / 32 := by
    rw [show k0_off1 (grid0.coords t) 0 = (BitVec.ofNat 32 (grid0.coords t 0).val).toNat from rfl, e, BitVec.toNat_ofNat]
    omega
  unfold word
  pointwise
  exact congrArg x (congrArg ix1 (Fin.ext e2))

/-- The sixteen times' emission logits a point has, by lane. -/
theorem emit_rows (t : Fin cfg0.N) :
    IsRows 100 (k0_pay5 (iblk m c 0 t) (iblk m c 1 t)) (16 * (t.val % 32)) (emit (logits m c) (labels m c) (sample t)) := by
  intro i hi n hn hw
  have e : rowOf (k0_pay5 (iblk m c 0 t) (iblk m c 1 t)) i (ix2 0 ⟨n, hn⟩)
      = k0_pay5 (F := Ideal) (iblk m c 0 t) (iblk m c 1 t) (ix2 ⟨i, hi⟩ ⟨n, hn⟩) := by
    unfold rowOf; pointwise
    exact congrArg (k0_pay5 (F := Ideal) _ _) (congrArg (ix2 · _) (Fin.ext (Nat.mod_eq_of_lt hi)))
  rw [e, emit_apply _ _ ⟨i, hi⟩ ⟨n, hn⟩ (show n < 101 by omega) (label (labels m c) (sample t) ⟨n, hw⟩)
    ((labels_block m c t ⟨n, by omega⟩).trans (labels_apply m c (sample t) ⟨n, by omega⟩ hw)), logits_block]
  unfold emit
  rw [dif_pos ⟨by omega, hw⟩]

/-- The sixteen times' blank logits a point has, by lane. -/
theorem blank_rows (t : Fin cfg0.N) :
    IsRows 101 (k0_pay6 (iblk m c 0 t)) (16 * (t.val % 32)) (blank (logits m c) (sample t)) := by
  intro i hi n hn hw
  have e : rowOf (k0_pay6 (iblk m c 0 t)) i (ix2 0 ⟨n, hn⟩)
      = k0_pay6 (F := Ideal) (iblk m c 0 t) (ix2 ⟨i, hi⟩ ⟨n, hn⟩) := by
    unfold rowOf; pointwise
    exact congrArg (k0_pay6 (F := Ideal) _) (congrArg (ix2 · _) (Fin.ext (Nat.mod_eq_of_lt hi)))
  rw [e, blank_apply _ ⟨i, hi⟩ ⟨n, hn⟩ hw, logits_block]
  unfold blank
  rw [dif_pos ⟨by omega, hw⟩]

end Cert.KernelIdeal.Hand

end
-- ==== Proof.V.Result.lean ====
/-
The kernel's result: each sample's total by lane after the launch, and the mean of them, negated.
-/
module

public import proofs.«01_k».proof.Proof.V.Entry

@[expose] public section

set_option maxRecDepth 16384

noncomputable section

namespace Cert.KernelIdeal.Hand

open Cert.KernelIdeal.Gen Cert.Maths
open Idealize.ShloMosaic Idealize.ShloMosaic.TcCoe

variable (m : (ℓ : Loc nD τ sig) → Buf (Elt Ideal) ℓ) (c : Dev nD)

/-- Zero totals, row and blanks. -/
def fresh : Vec Ideal S1x1x128 .f32 × Vec Ideal S1x128 .f32 × Vec Ideal S1x128 .f32 :=
  (k0_pay1 (F := Ideal), broadcast S1x128 (zeroC (F := Ideal)), broadcast S1x128 (zeroC (F := Ideal)))

/-- What a point's results hold, of its sample. -/
def Held (t : Fin cfg0.N) (s : Vec Ideal S1x1x128 .f32 × Vec Ideal S1x128 .f32 × Vec Ideal S1x128 .f32) (n : ℕ) : Prop :=
  Upto (emit (logits m c) (labels m c) (sample t)) (blank (logits m c) (sample t)) (lastTime (lengths m c) (sample t))
    (lastPlace (counts m c) (sample t)) n s

/-- Nothing is held before the first time. -/
theorem held_zero (t : Fin cfg0.N) : Held m c t fresh 0 := by
  refine ⟨fun n => ?_, fun h => absurd rfl h, fun h => absurd rfl h⟩
  rw [if_neg (by omega)]
  show (k0_pay1 (F := Ideal) (ix3 0 0 n) : EReal) = 0
  pointwise [k0_pay1]

/-- A point holds sixteen times more than was held before it. -/
theorem held_point (t : Fin cfg0.N) (s : Vec Ideal S1x1x128 .f32 × Vec Ideal S1x128 .f32 × Vec Ideal S1x128 .f32)
    (h : Held m c t (if t.val % 32 = 0 then k0_pay1 (F := Ideal) else s.1, s.2.1, s.2.2) (16 * (t.val % 32))) :
    Held m c t (pointOut m c t s) (16 * (t.val % 32 + 1)) := by
  have hi : tbw (grid0.coords t) = BitVec.ofNat 32 (t.val % 32) := by
    have e1 : (grid0.coords t 1).val = t.val / 1 % 32 :=
      (fun t : Fin grid0.N => Pipeline.Grid.coords_val t 1 (by decide) rfl) t
    rw [tbw, e1, Nat.div_one]
  exact Upto.point (by omega) (lastTime_lt _ _) (lastPlace_lt _ _) _ hi
    ((word_at t _).trans ((times_block m c t _).trans (times_apply m c _)))
    ((word_at t _).trans ((places_block m c t _).trans (places_apply m c _)))
    (emit_rows m c t) (blank_rows m c t) h

/-- After each point its results hold every time so far. -/
theorem held : ∀ (n : ℕ) (hn : n < cfg0.N), Held m c ⟨n, hn⟩ (outsAt m c n hn) (16 * (n % 32 + 1)) := by
  intro n
  induction n with
  | zero =>
    intro hn
    exact held_point m c ⟨0, hn⟩ fresh (held_zero m c ⟨0, hn⟩)
  | succ n ih =>
    intro hn
    by_cases h : (n + 1) % 32 = 0
    · rw [outsAt_start m c ⟨n + 1, hn⟩ h fresh]
      refine held_point m c ⟨n + 1, hn⟩ _ ?_
      rw [if_pos h, h]
      exact held_zero m c ⟨n + 1, hn⟩
    · refine held_point m c ⟨n + 1, hn⟩ (outsAt m c n (Nat.lt_of_succ_lt hn)) ?_
      have e : sample ⟨n + 1, hn⟩ = sample ⟨n, Nat.lt_of_succ_lt hn⟩ := Fin.ext (show (n + 1) / 32 = n / 32 by omega)
      have e2 : (n + 1) % 32 = n % 32 + 1 := by omega
      rw [if_neg h]
      unfold Held
      rw [e]
      show Upto _ _ _ _ (16 * ((n + 1) % 32)) _
      rw [e2]
      exact ih (Nat.lt_of_succ_lt hn)

/-- Each sample's scores by lane: zero but at its last place. -/
def totals : Vec Ideal S4x1x128 .f32 := fun i =>
  if (i 2).val = lastPlace (counts m c) (i 0) then score (logits m c) (labels m c) (lengths m c) (counts m c) (i 0) else (0 : EReal)

/-- A sample's last point has its score at its last place. -/
theorem last_point (t : Fin cfg0.N) (h31 : t.val % 32 = 31) (n : Fin 128) :
    (outsAt m c t.val t.isLt).1 (ix3 0 0 n) = totals m c (ix3 (sample t) 0 n) := by
  have h := (held m c t.val t.isLt).total n
  have hT := lastTime_lt (lengths m c) (sample t)
  refine h.trans ?_
  show (if n.val = lastPlace (counts m c) (sample t) ∧ lastTime (lengths m c) (sample t) < 16 * (t.val % 32 + 1) then
      table (emit (logits m c) (labels m c) (sample t)) (blank (logits m c) (sample t)) (lastTime (lengths m c) (sample t)) n.val
      else (0 : EReal))
    = if n.val = lastPlace (counts m c) (sample t) then
        score (logits m c) (labels m c) (lengths m c) (counts m c) (sample t) else (0 : EReal)
  by_cases hn : n.val = lastPlace (counts m c) (sample t)
  · rw [if_pos ⟨hn, by rw [h31]; exact hT⟩, if_pos hn, hn]; rfl
  · rw [if_neg fun h => hn h.1, if_neg hn]

/-- The launch leaves each sample's scores by lane. -/
theorem array_eq : (dats m 0 c).arrAt 4 cfg0.N = totals m c := by
  refine Pipeline.Dat.arrAt_eq_of_covers (dats m 0 c) 4 _ (by decide +kernel) fun t hf y => ?_
  have h31 : t.val % 32 = 31 := (flush0_4 t).mp hf
  have e := at_4 t
  blk_simp
  rw [after_4]
  have hy : (y : S1x1x128.Idx) = ix3 0 0 (y 2) := by
    funext a
    refine Fin.cases ?_ (Fin.cases ?_ (Fin.cases ?_ fun a => a.elim0)) a
    · exact Subsingleton.elim (α := Fin 1) _ _
    · exact Subsingleton.elim (α := Fin 1) _ _
    · rfl
  have h2 : (((win0_4.blk t).view.emb y) : S4x1x128.Idx) = ix3 (sample t) 0 (y 2) := by
    funext a
    refine Fin.cases ?_ (Fin.cases ?_ (Fin.cases ?_ fun a => a.elim0)) a
    · apply Fin.ext
      show (((win0_4.blk t).view.emb y) 0 : ℕ) = t.val / 32
      blk_simp [e]
    · exact Subsingleton.elim (α := Fin 1) _ _
    · apply Fin.ext
      show (((win0_4.blk t).view.emb y) 2 : ℕ) = ((y 2 : Fin 128) : ℕ)
      blk_simp [e]
  exact (congrArg (outsAt m c t.val t.isLt).1 hy).trans ((last_point m c t h31 (y 2)).trans (congrArg (totals m c) h2.symm))

/-- The result the later host lines leave. -/
theorem result_eq :
    Pipeline.afterTail₀ cfgs (dats m) 0 (V0 m) [hostOps1] c main_v12
      = fun _ => loss (logits m c) (labels m c) (lengths m c) (counts m c) := by
  have e : Pipeline.withArrays (cfgs 0).spec c (V0 m c) (fun w => (dats m 0 c).arrAt w (cfgs 0).N) (Proc.devRef .tc main_v8) = totals m c := by
    exact (Pipeline.withArrays_arr _ launch0.win.arr_inj c _ _ 4).trans (array_eq m c)
  unfold Pipeline.afterTail₀
  simp only [hostOps1, List.flatten_cons, List.flatten_nil, List.append_nil, List.cons_append, List.nil_append]
  after_results
  rw [e]
  funext i
  pointwise
  rw [four_word, neg_div_four]
  unfold loss
  refine congrArg (fun z : EReal => -(Ideal.div z ((4 : ℝ) : EReal))) (Finset.sum_congr rfl fun b _ => ?_)
  have hu := lastPlace_lt (counts m c) b
  rw [Fin.sum_univ_one]
  refine (Finset.sum_eq_single (⟨lastPlace (counts m c) b, by omega⟩ : Fin 128) (fun n _ hn => ?_)
    fun h => absurd (Finset.mem_univ _) h).trans ?_
  · exact if_neg fun h => hn (Fin.ext h)
  · exact if_pos rfl

end Cert.KernelIdeal.Hand

end
-- ==== Proof.V.RefOps.lean ====
/-
Three of the reference's operations at an index: the running sum along a row, the logit taken at each label, and the
table read at one time and place per sample.
-/
module

public import proofs.«01_k».proof.Proof.RI.Frame
public import proofs.«01_k».proof.Proof.V.Spec
public import Idealize.ShloMosaic.Lib.Routing.Ops

@[expose] public section

set_option maxRecDepth 16384

noncomputable section

namespace Cert.ReferenceIdeal.Hand

open Cert.ReferenceIdeal.Gen
open Idealize.ShloMosaic

/-- A left fold of sums from `z` is `z` plus the sum of the terms. -/
theorem foldl_sum {ι : Type} (l : List ι) (g : ι → EReal) : ∀ z : EReal, l.foldl (fun r a => r + g a) z = z + (l.map g).sum := by
  induction l with
  | nil => intro z; simp
  | cons a l ih => intro z; rw [List.foldl_cons, ih, List.map_cons, List.sum_cons, add_assoc]

/-- Of a window of `d + (j + 1)` positions whose first `d` are padding, the rest hold the terms in order. -/
theorem sum_padded (f : ℕ → EReal) (d j : ℕ) :
    ∑ w ∈ Finset.range (d + (j + 1)), (if j + d ≤ j + w then f (j + w - (j + d)) else 0) = ∑ l ∈ Finset.range (j + 1), f l := by
  rw [Finset.sum_range_add, Finset.sum_eq_zero (fun w hw => if_neg (by have := Finset.mem_range.1 hw; omega)), zero_add]
  exact Finset.sum_congr rfl fun l _ => by rw [if_pos (by omega), show j + (d + l) - (j + d) = l by omega]

/-- A running sum along each row of four: entry `j` is the sum of the entries up to it. -/
theorem running_sum {N p : ℕ} (hN : p + 1 = N) (x : (⟨2, ![4, N]⟩ : Shape).Idx → EReal) (v : EReal) (hv : v = 0) (f : ℕ → EReal) (b : Fin 4)
    (hx : ∀ i : Fin N, x (ix2 b i) = f i.val)
    (h : (⟨2, ![4, N]⟩ : Shape).ReduceWindows (![1, N] : Fin 2 → ℕ) ![1, 1] ![0, p] ![0, 0] ⟨2, ![4, N]⟩) (j : Fin N) :
    Ideal.hostReduceWindowAdd ![1, N] ![1, 1] ![0, p] ![0, 0] h x v (ix2 b j) = ∑ l ∈ Finset.range (j.val + 1), f l := by
  subst hN hv
  obtain ⟨j, hj⟩ := j
  obtain ⟨d, rfl⟩ : ∃ d, p = j + d := ⟨p - j, by omega⟩
  show _ = ∑ l ∈ Finset.range (j + 1), f l
  unfold Ideal.hostReduceWindowAdd Host.reduceWindow
  dsimp only
  rw [foldl_sum, zero_add, ← List.ofFn_eq_map, List.sum_ofFn]
  refine (Fintype.sum_equiv (finCongr (Routing.numel2 (j + d + 1))) _
    (fun w : Fin (j + d + 1) => if j + d ≤ j + w.val then f (j + w.val - (j + d)) else 0) (fun n => ?_)).trans ?_
  · have hn : n.val < j + d + 1 := (n.cast (Routing.numel2 _)).isLt
    have h0 : ((⟨2, ![1, j + d + 1]⟩ : Shape).rowMajor.symm n 0).val = 0 := by
      rw [show (⟨2, ![1, j + d + 1]⟩ : Shape).rowMajor.symm n = _ from Routing.symm2 n]; rfl
    have h1 : ((⟨2, ![1, j + d + 1]⟩ : Shape).rowMajor.symm n 1).val = n.val := by
      rw [show (⟨2, ![1, j + d + 1]⟩ : Shape).rowMajor.symm n = _ from Routing.symm2 n]; rfl
    show _ = if j + d ≤ j + n.val then f (j + n.val - (j + d)) else 0
    split
    · next hin =>
      have h2 := hin 1
      change j + d ≤ j * 1 + ((⟨2, ![1, j + d + 1]⟩ : Shape).rowMajor.symm n 1).val ∧ _ at h2
      rw [h1] at h2
      rw [if_pos (by omega)]
      refine (congrArg x (funext fun a => Fin.ext ?_)).trans (hx ⟨j + n.val - (j + d), by omega⟩)
      match a with
      | ⟨0, _⟩ =>
        show b.val * 1 + ((⟨2, ![1, j + d + 1]⟩ : Shape).rowMajor.symm n 0).val - 0 = b.val
        rw [h0]; omega
      | ⟨1, _⟩ =>
        show j * 1 + ((⟨2, ![1, j + d + 1]⟩ : Shape).rowMajor.symm n 1).val - (j + d) = j + n.val - (j + d)
        rw [h1, Nat.mul_one]
    · next hin =>
      rw [if_neg fun hle => hin fun a => by
        match a with
        | ⟨0, _⟩ =>
          show 0 ≤ b.val * 1 + ((⟨2, ![1, j + d + 1]⟩ : Shape).rowMajor.symm n 0).val
            ∧ b.val * 1 + ((⟨2, ![1, j + d + 1]⟩ : Shape).rowMajor.symm n 0).val - 0 < 4
          have := b.isLt
          rw [h0]; omega
        | ⟨1, _⟩ =>
          show j + d ≤ j * 1 + ((⟨2, ![1, j + d + 1]⟩ : Shape).rowMajor.symm n 1).val
            ∧ j * 1 + ((⟨2, ![1, j + d + 1]⟩ : Shape).rowMajor.symm n 1).val - (j + d) < j + d + 1
          rw [h1]; omega]
  · rw [Fin.sum_univ_eq_sum_range (fun w => if j + d ≤ j + w then f (j + w - (j + d)) else 0),
      show j + d + 1 = d + (j + 1) by omega]
    exact sum_padded f d j

/-- A small number's word read as a signed integer. -/
theorem toInt_small {n : ℕ} (h : n < 2 ^ 31) : (BitVec.ofNat 32 n).toInt.toNat = n := by
  rw [BitVec.toInt_eq_toNat_of_lt, BitVec.toNat_ofNat, Nat.mod_eq_of_lt (by omega)]; rfl
  rw [BitVec.toNat_ofNat, Nat.mod_eq_of_lt (by omega)]; omega

/-- The logits taken at each label. -/
theorem take_label {α : Type} (x : S4x512x100x1024.Idx → α) (idx : IVec S4x100x1x1 32) (b : Fin 4) (t : Fin 512) (n : Fin 100)
    (v : Fin 1024) (hv : idx (ix4 b n 0 0) = BitVec.ofNat 32 v.val) :
    Host.gather gather_S4x512x100x1024_S4x100x1x1_S4x512x100x1_1_3_02_01_3_3_151211 x idx (ix4 b t n 0) = x (ix4 b t n v) := by
  unfold Host.gather
  refine congrArg x (funext fun a => Fin.ext ?_)
  have hlt := v.isLt
  match a with
  | ⟨0, _⟩ => show 0 + b.val + 0 = b.val; omega
  | ⟨1, _⟩ => show 0 + 0 + t.val = t.val; omega
  | ⟨2, _⟩ => show 0 + n.val + 0 = n.val; omega
  | ⟨3, _⟩ =>
    have e : gather_S4x512x100x1024_S4x100x1x1_S4x512x100x1_1_3_02_01_3_3_151211.siIdx (ix4 b t n 0) ⟨0, by decide⟩ = ix4 b n 0 0 := by
      funext k
      match k with
      | ⟨0, _⟩ => rfl
      | ⟨1, _⟩ => rfl
      | ⟨2, _⟩ => rfl
      | ⟨3, _⟩ => rfl
    have h : gather_S4x512x100x1024_S4x100x1x1_S4x512x100x1_1_3_02_01_3_3_151211.start (ix4 b t n 0) idx 3 = min (idx (ix4 b n 0 0)).toInt.toNat 1023 := by
      rw [← e]; rfl
    show GatherDims.start _ _ idx 3 + 0 + 0 = v.val
    rw [h, hv, toInt_small (by omega)]; omega

/-- A table read at one time and place per sample. -/
theorem take_score {α : Type} (x : S512x4x101.Idx → α) (idx : IVec S4x3 32) (b : Fin 4) (t : Fin 512) (n : Fin 101)
    (h0 : idx (ix2 b 0) = BitVec.ofNat 32 t.val) (h1 : idx (ix2 b 1) = BitVec.ofNat 32 b.val)
    (h2 : idx (ix2 b 2) = BitVec.ofNat 32 n.val) :
    Host.gather gather_S512x4x101_S4x3_S4_n_012_n_n_012_1_111 x idx (ix1 b) = x (ix3 t b n) := by
  unfold Host.gather
  refine congrArg x (funext fun a => Fin.ext ?_)
  have ht := t.isLt
  have hb := b.isLt
  have hn := n.isLt
  have e (k : Fin 3) : gather_S512x4x101_S4x3_S4_n_012_n_n_012_1_111.siIdx (ix1 b) ⟨k.val, k.isLt⟩ = ix2 b k := by
    funext a
    match a with
    | ⟨0, _⟩ => rfl
    | ⟨1, _⟩ => rfl
  have s (k : Fin 3) : gather_S512x4x101_S4x3_S4_n_012_n_n_012_1_111.start (ix1 b) idx k
      = min (idx (ix2 b k)).toInt.toNat (S512x4x101.size k - (![1, 1, 1] : Fin 3 → ℕ) k) := by
    rw [← e]
    match k with
    | ⟨0, _⟩ => rfl
    | ⟨1, _⟩ => rfl
    | ⟨2, _⟩ => rfl
  match a with
  | ⟨0, _⟩ =>
    show GatherDims.start _ _ idx 0 + 0 + 0 = t.val
    rw [s 0, h0, toInt_small (by omega)]
    show min t.val 511 + 0 + 0 = t.val
    omega
  | ⟨1, _⟩ =>
    show GatherDims.start _ _ idx 1 + 0 + 0 = b.val
    rw [s 1, h1, toInt_small (by omega)]
    show min b.val 3 + 0 + 0 = b.val
    omega
  | ⟨2, _⟩ =>
    show GatherDims.start _ _ idx 2 + 0 + 0 = n.val
    rw [s 2, h2, toInt_small (by omega)]
    show min n.val 100 + 0 + 0 = n.val
    omega

end Cert.ReferenceIdeal.Hand

end
-- ==== Proof.V.RefHead.lean ====
/-
What the reference's loop starts from: the clipped lengths, the two tables of logits, and the first time's scores.
-/
module

public import proofs.«01_k».proof.Proof.V.RefOps
public import Idealize.ShloMosaic.Lib.Claim
public import Idealize.ShloMosaic.Lib.StableHlo.ReadAt
public import Idealize.ShloMosaic.Lib.Routing.OpsPair

@[expose] public section

set_option maxRecDepth 16384

noncomputable section

namespace Cert.ReferenceIdeal.Hand

open Cert.ReferenceIdeal.Gen Cert.ReferenceIdeal.Value Cert.Maths
open Idealize.ShloMosaic Idealize.ShloMosaic.TcCoe
open Idealize.ShloMosaic.StableHlo

variable (m : (ℓ : Loc nD τ sig) → Buf (Elt Ideal) ℓ) (c : Dev nD)

/-- The logits as launched. -/
abbrev logits : LogitIdx → EReal := m ((c.tc : Thread nD τ).loc main_arg0)
/-- The labels as launched. -/
abbrev labels : LabelIdx → BitVec 32 := m ((c.tc : Thread nD τ).loc main_arg1)
/-- The lengths as launched. -/
abbrev lengths : LengthIdx → BitVec 32 := m ((c.tc : Thread nD τ).loc main_arg2)
/-- The label counts as launched. -/
abbrev counts : LengthIdx → BitVec 32 := m ((c.tc : Thread nD τ).loc main_arg3)

/-- The label gather's block: where the label is a class, the entry is the logit of that class. -/
theorem take_block (W : Valuation τ sig (Elt Ideal)) (b : Fin 4) (t : Fin 512) (n : Fin 100) (v : Fin 1024)
    (hv : (W (Proc.devRef .tc main_v6) : IVec S4x1x100x1 32) (ix4 b 0 n 0) = BitVec.ofNat 32 v.val) :
    (after hostOps0_7 W (Proc.devRef .tc main_v7) : S4x512x100x1.Idx → EReal) (ix4 b t n 0)
      = (W (Proc.devRef .tc main_v5) : S4x512x100x1024.Idx → EReal) (ix4 b t n v) := by
  simp only [hostOps0_7]
  after_results
  simp -implicitDefEqProofs only [StableHlo.TRef.toBuf, StableHlo.TRef.ofBuf, cast_cast, cast_eq]
  pointwise
  have hlt := v.isLt
  have hw : (BitVec.ofNat 32 v.val).toNat < 2 ^ (32 - 1) := by
    rw [BitVec.toNat_ofNat, Nat.mod_eq_of_lt (by omega)]; omega
  rw [hv, Routing.wrap_of_lt _ _ hw, take_label _ _ b t n v ((Routing.wrap_of_lt (W (Proc.devRef .tc main_v6) (ix4 b 0 n 0) : BitVec 32) _ (by rw [hv]; exact hw)).trans hv),
    IntOp.cmpi_sge.2 (by rw [StableHlo.Predicate.toInt_ofNat_small v.val (by omega)]; change (0 : ℤ) ≤ v.val; omega),
    IntOp.cmpi_sle.2 (by rw [StableHlo.Predicate.toInt_ofNat_small v.val (by omega)]; change (v.val : ℤ) ≤ 1023; omega)]
  rfl

/-- The block of slices: class 0 at every place, -/
theorem slices_blank (W : Valuation τ sig (Elt Ideal)) (b : Fin 4) (t : Fin 512) (n : Fin 101) :
    (after hostOps0_6 W (Proc.devRef .tc main_v4) : S4x512x101.Idx → EReal) (ix3 b t n)
      = (W (Proc.devRef .tc main_arg0) : S4x512x101x1024.Idx → EReal) (ix4 b t n 0) := by
  simp only [hostOps0_6]
  after_reads_at

/-- every class at the first hundred places, -/
theorem slices_class (W : Valuation τ sig (Elt Ideal)) (b : Fin 4) (t : Fin 512) (n : Fin 100) (v : Fin 1024) :
    (after hostOps0_6 W (Proc.devRef .tc main_v5) : S4x512x100x1024.Idx → EReal) (ix4 b t n v)
      = (W (Proc.devRef .tc main_arg0) : S4x512x101x1024.Idx → EReal) (ix4 b t ⟨n.val, by omega⟩ v) := by
  simp only [hostOps0_6]
  after_reads_at

/-- and the labels. -/
theorem slices_label (W : Valuation τ sig (Elt Ideal)) (b : Fin 4) (n : Fin 100) :
    (after hostOps0_6 W (Proc.devRef .tc main_v6) : IVec S4x1x100x1 32) (ix4 b 0 n 0)
      = (W (Proc.devRef .tc main_v2) : IVec S4x100 32) (ix2 b n) := by
  simp only [hostOps0_6]
  after_reads_at

/-- The block after the gather: the emissions by sample, time and place, -/
theorem rows_emit (W : Valuation τ sig (Elt Ideal)) (b : Fin 4) (t : Fin 512) (n : Fin 100) :
    (after hostOps0_8 W (Proc.devRef .tc main_v8) : S4x512x100.Idx → EReal) (ix3 b t n)
      = (W (Proc.devRef .tc main_v7) : S4x512x100x1.Idx → EReal) (ix4 b t n 0) := by
  simp only [hostOps0_8]
  after_reads_at

/-- those of time 0, -/
theorem rows_first (W : Valuation τ sig (Elt Ideal)) (b : Fin 4) (n : Fin 100) :
    (after hostOps0_8 W (Proc.devRef .tc main_v11) : S4x100.Idx → EReal) (ix2 b n)
      = (W (Proc.devRef .tc main_v7) : S4x512x100x1.Idx → EReal) (ix4 b 0 n 0) := by
  simp only [hostOps0_8]
  after_reads_at

/-- and a column of zeros. -/
theorem rows_zero (W : Valuation τ sig (Elt Ideal)) (b : Fin 4) :
    @Eq EReal ((after hostOps0_8 W (Proc.devRef .tc main_v9) : S4x1.Idx → EReal) (ix2 b 0)) 0 := by
  simp only [hostOps0_8]
  after_reads_at

/-- The running sum over places at time 0. -/
theorem sums_first (W : Valuation τ sig (Elt Ideal)) (b : Fin 4) (f : ℕ → EReal)
    (hf : ∀ i : Fin 100, (W (Proc.devRef .tc main_v11) : S4x100.Idx → EReal) (ix2 b i) = f i.val) (j : Fin 100) :
    (after hostOps0_9 W (Proc.devRef .tc main_v12) : S4x100.Idx → EReal) (ix2 b j) = ∑ l ∈ Finset.range (j.val + 1), f l := by
  simp only [hostOps0_9]
  after_results
  simp -implicitDefEqProofs only [StableHlo.TRef.toBuf, StableHlo.TRef.ofBuf, cast_cast, cast_eq]
  exact running_sum (p := 99) rfl _ _ (by pointwise) f b hf reduceWindows_S4x100_S4x100_w1s1p0_0_w100s1p99_0 j

/-- The last block: the first time's scores, -/
theorem starts_first (W : Valuation τ sig (Elt Ideal)) (b : Fin 4) (n : Fin 101) :
    (after hostOps0_10 W (Proc.devRef .tc main_v19_4) : S4x101.Idx → EReal) (ix2 b n)
      = if h : n.val < 1 then (W (Proc.devRef .tc main_v9) : S4x1.Idx → EReal) (ix2 b ⟨n.val, h⟩)
        else (W (Proc.devRef .tc main_v12) : S4x100.Idx → EReal) (ix2 b ⟨n.val - 1, by omega⟩) := by
  simp only [hostOps0_10]
  after_results
  simp only [id_eq]
  pointwise

/-- the table of blanks, -/
theorem starts_blank (W : Valuation τ sig (Elt Ideal)) (k : Fin 511) (b : Fin 4) (n : Fin 101) :
    (after hostOps0_10 W (Proc.devRef .tc main_v19_0) : S511x4x101.Idx → EReal) (ix3 k b n)
      = (W (Proc.devRef .tc main_v4) : S4x512x101.Idx → EReal) (ix3 b ⟨k.val, by omega⟩ n) := by
  simp only [hostOps0_10]
  after_reads_simp
  simp only [id_eq]
  pointwise

/-- the table of emissions one time later, -/
theorem starts_emit (W : Valuation τ sig (Elt Ideal)) (k : Fin 511) (b : Fin 4) (n : Fin 100) :
    (after hostOps0_10 W (Proc.devRef .tc main_v19_1) : S511x4x100.Idx → EReal) (ix3 k b n)
      = (W (Proc.devRef .tc main_v8) : S4x512x100.Idx → EReal) (ix3 b ⟨k.val + 1, by omega⟩ n) := by
  simp only [hostOps0_10]
  after_reads_simp
  simp only [id_eq]
  pointwise
  simp only [add_comm]

/-- the zeros, -/
theorem starts_zero (W : Valuation τ sig (Elt Ideal)) (i : S4x1.Idx) :
    (after hostOps0_10 W (Proc.devRef .tc main_v19_2) : S4x1.Idx → EReal) i
      = (W (Proc.devRef .tc main_v9) : S4x1.Idx → EReal) i := by
  simp only [hostOps0_10]
  after_reads_simp
  rfl

/-- and the first time's scores once more. -/
theorem starts_copy (W : Valuation τ sig (Elt Ideal)) :
    after hostOps0_10 W (Proc.devRef .tc main_v19_4) = after hostOps0_10 W (Proc.devRef .tc main_v13) := by
  simp only [hostOps0_10]
  after_results
  rfl

/-- The contents after the three clips. -/
abbrev clipped : Valuation τ sig (Elt Ideal) :=
  after hostOps0_5 (after hostOps0_4 (after hostOps0_3 (after hostOps0_2 (after hostOps0_1 (after hostOps0 (launchContents m c))))))

/-- The contents after the label gather. -/
abbrev taken : Valuation τ sig (Elt Ideal) := after hostOps0_7 (after hostOps0_6 (clipped m c))

/-- The contents before the last block. -/
abbrev summed : Valuation τ sig (Elt Ideal) := after hostOps0_9 (after hostOps0_8 (taken m c))

theorem entry_eq : entryContents preI m c = after hostOps0_10 (summed m c) := by
  simp only [entryContents, preI, afterL_cons, afterL_nil]

/-- The clips leave the logits. -/
theorem clipped_logits : clipped m c (Proc.devRef .tc main_arg0) = logits m c := by
  rw [clipped, after_of_writes_sub _ _ hostOps0_5_writes (by decide), after_of_writes_sub _ _ hostOps0_4_writes (by decide),
    after_of_writes_sub _ _ hostOps0_3_writes (by decide), after_of_writes_sub _ _ hostOps0_2_writes (by decide),
    after_of_writes_sub _ _ hostOps0_1_writes (by decide), after_of_writes_sub _ _ hostOps0_writes (by decide)]

/-- The labels, clipped. -/
theorem clipped_label (b : Fin 4) (n : Fin 100) :
    (clipped m c (Proc.devRef .tc main_v2) : IVec S4x100 32) (ix2 b n) = BitVec.ofNat 32 (label (labels m c) b n).val := by
  show _ = BitVec.ofNat 32 (clip 0 1023 (labels m c (ix2 b n)))
  rw [← clip_word (by omega) (by omega)]
  simp only [clipped, hostOps0, hostOps0_1, hostOps0_2, hostOps0_3, hostOps0_4, hostOps0_5]
  after_results
  pointwise
  rfl

/-- The label gather's result: the emissions. -/
theorem taken_apply (b : Fin 4) (t : Fin 512) (n : Fin 100) :
    (taken m c (Proc.devRef .tc main_v7) : S4x512x100x1.Idx → EReal) (ix4 b t n 0) = emit (logits m c) (labels m c) b t n := by
  rw [taken, take_block _ b t n (label (labels m c) b n) (by rw [slices_label, clipped_label]), slices_class, clipped_logits]
  unfold emit
  rw [dif_pos ⟨t.isLt, n.isLt⟩]

/-- The table of blanks the loop reads. -/
theorem entry_blank (k : Fin 511) (b : Fin 4) (n : Fin 101) :
    (entryContents preI m c (Proc.devRef .tc main_v19_0) : S511x4x101.Idx → EReal) (ix3 k b n) = blank (logits m c) b k n := by
  have hk := k.isLt
  rw [entry_eq, starts_blank, summed, after_of_writes_sub _ _ hostOps0_9_writes (by decide),
    after_of_writes_sub _ _ hostOps0_8_writes (by decide), taken, after_of_writes_sub _ _ hostOps0_7_writes (by decide),
    slices_blank, clipped_logits]
  unfold blank
  rw [dif_pos ⟨by omega, n.isLt⟩]

/-- The table of emissions the loop reads: row `k` is time `k + 1`. -/
theorem entry_emit (k : Fin 511) (b : Fin 4) (n : Fin 100) :
    (entryContents preI m c (Proc.devRef .tc main_v19_1) : S511x4x100.Idx → EReal) (ix3 k b n)
      = emit (logits m c) (labels m c) b (k.val + 1) n := by
  rw [entry_eq, starts_emit, summed, after_of_writes_sub _ _ hostOps0_9_writes (by decide), rows_emit, taken_apply]

/-- The zeros the loop puts first in every row. -/
theorem entry_zero (b : Fin 4) :
    @Eq EReal ((entryContents preI m c (Proc.devRef .tc main_v19_2) : S4x1.Idx → EReal) (ix2 b 0)) 0 := by
  rw [entry_eq, starts_zero, summed, after_of_writes_sub _ _ hostOps0_9_writes (by decide), rows_zero]

/-- The scores the loop starts from: the first time's. -/
theorem entry_scores (b : Fin 4) (n : Fin 101) :
    (entryContents preI m c (Proc.devRef .tc main_v19_4) : S4x101.Idx → EReal) (ix2 b n)
      = table (emit (logits m c) (labels m c) b) (blank (logits m c) b) 0 n := by
  have hn := n.isLt
  rw [entry_eq, starts_first]
  show _ = ∑ l ∈ Finset.range n.val, emit (logits m c) (labels m c) b 0 l
  split
  · next h =>
    obtain ⟨n, hn'⟩ := n
    obtain rfl : n = 0 := by simpa using h
    rw [summed, after_of_writes_sub _ _ hostOps0_9_writes (by decide)]
    exact rows_zero _ b
  · next h =>
    rw [summed, sums_first _ b (emit (logits m c) (labels m c) b 0) (fun i => by rw [rows_first, taken_apply]; rfl),
      show n.val - 1 + 1 = n.val by simp at h; omega]

/-- The lengths, clipped. -/
theorem entry_length (b : Fin 4) :
    (entryContents preI m c (Proc.devRef .tc main_v0) : IVec S4 32) (ix1 b) = BitVec.ofNat 32 (clip 1 512 (lengths m c (ix1 b))) := by
  rw [← clip_word (by omega) (by omega)]
  simp only [entryContents, preI, afterL_cons, afterL_nil, hostOps0, hostOps0_1, hostOps0_2, hostOps0_3, hostOps0_4, hostOps0_5,
    hostOps0_6, hostOps0_7, hostOps0_8, hostOps0_9, hostOps0_10]
  after_results
  pointwise
  rfl

/-- The label counts, clipped. -/
theorem entry_count (b : Fin 4) :
    (entryContents preI m c (Proc.devRef .tc main_v1) : IVec S4 32) (ix1 b) = BitVec.ofNat 32 (clip 1 100 (counts m c (ix1 b))) := by
  rw [← clip_word (by omega) (by omega)]
  simp only [entryContents, preI, afterL_cons, afterL_nil, hostOps0, hostOps0_1, hostOps0_2, hostOps0_3, hostOps0_4, hostOps0_5,
    hostOps0_6, hostOps0_7, hostOps0_8, hostOps0_9, hostOps0_10]
  after_results
  pointwise
  rfl

end Cert.ReferenceIdeal.Hand

end
-- ==== Proof.V.RefLoop.lean ====
/-
The reference's loop: trip `k` turns the scores of time `k` into those of time `k + 1` and keeps them as row `k` of its table.
-/
module

public import proofs.«01_k».proof.Proof.V.RefHead

@[expose] public section

set_option maxRecDepth 16384

noncomputable section

namespace Cert.ReferenceIdeal.Hand

open Cert.ReferenceIdeal.Gen Cert.ReferenceIdeal.Value Cert.Maths
open Idealize.ShloMosaic Idealize.ShloMosaic.TcCoe
open Idealize.ShloMosaic.StableHlo

/-- The row of a table that starts at a counter's value. -/
theorem row_at {α : Type} {N : ℕ} (x : (⟨3, ![511, 4, N]⟩ : Shape).Idx → α) (start : Fin 3 → ℤ)
    (h : (⟨3, ![511, 4, N]⟩ : Shape).Slices (fun _ => 0) ⟨3, ![1, 4, N]⟩) (k : Fin 511)
    (e : ∀ a, start a = ((![k.val, 0, 0] : Fin 3 → ℕ) a : ℤ)) (b : Fin 4) (n : Fin N) :
    Host.dynamicSlice ⟨3, ![1, 4, N]⟩ x start h (ix3 0 b n) = x (ix3 k b n) := by
  have hk : (⟨3, ![511, 4, N]⟩ : Shape).Slices (![k.val, 0, 0] : Fin 3 → ℕ) ⟨3, ![1, 4, N]⟩ := by
    refine ⟨rfl, fun a => ?_⟩
    have := k.isLt
    match a with
    | ⟨0, _⟩ => show k.val + 1 ≤ 511; omega
    | ⟨1, _⟩ => show 0 + 4 ≤ 4; omega
    | ⟨2, _⟩ => show 0 + N ≤ N; omega
  rw [WordCmp.dynamicSlice_eq_extract _ x start h _ hk e]
  refine congrArg x (funext fun a => Fin.ext ?_)
  match a with
  | ⟨0, _⟩ => show k.val + 0 = k.val; omega
  | ⟨1, _⟩ => show 0 + b.val = b.val; omega
  | ⟨2, _⟩ => show 0 + n.val = n.val; omega

variable (W : Valuation τ sig (Elt Ideal)) (k : Fin 511) (b : Fin 4)

/-- A trip's starts are its number and zeros. -/
theorem starts_at (hc : W (Proc.devRef .tc main_v19_3) = fun _ => Scf.iv 0#32 1#32 k.val) (a : Fin 3) :
    ((![W (Proc.devRef .tc main_v19_3), constantI S_ 32 0#32, constantI S_ 32 0#32] : Fin 3 → (⟨S_, .i32⟩ : BufTy).Contents (Elt Ideal)) a
      (Shape.Idx.first h_S_)).toInt = ((![k.val, 0, 0] : Fin 3 → ℕ) a : ℤ) := by
  have hk := k.isLt
  match a with
  | ⟨0, _⟩ =>
    show (W (Proc.devRef .tc main_v19_3) (Shape.Idx.first h_S_)).toInt = (k.val : ℤ)
    rw [hc, Scf.toInt_iv (ub := 511#32) (by decide +kernel) (le_trans hk.le (by decide +kernel))]
    show (0 : ℤ) + k.val * 1 = k.val
    omega
  | ⟨1, _⟩ => rfl
  | ⟨2, _⟩ => rfl

/-- A trip's running sums of the next time's emissions. -/
theorem trip_ahead (hc : W (Proc.devRef .tc main_v19_3) = fun _ => Scf.iv 0#32 1#32 k.val) (E : ℕ → EReal)
    (hE : ∀ n : Fin 100, (W (Proc.devRef .tc main_v19_1) : S511x4x100.Idx → EReal) (ix3 k b n) = E n.val)
    (h0 : @Eq EReal ((W (Proc.devRef .tc main_v19_2) : S4x1.Idx → EReal) (ix2 b 0)) 0) (n : Fin 101) :
    (res_main_while0b_v53 W : S4x101.Idx → EReal) (ix2 b n) = ahead E n.val := by
  have hn := n.isLt
  unfold res_main_while0b_v53
  pointwise
  split
  · next h =>
    obtain ⟨n, hn'⟩ := n
    obtain rfl : n = 0 := by simpa using h
    exact h0
  · next h =>
    have hn' : n.val - 1 + 1 = n.val := by simp at h; omega
    refine (running_sum (p := 99) rfl _ _ (by pointwise) E b (fun i => ?_) reduceWindows_S4x100_S4x100_w1s1p0_0_w100s1p99_0
      ⟨n.val - 1, by omega⟩).trans (by rw [hn']; rfl)
    have hi := (row_at _ _ sliceFits_S511x4x100_S1x4x100 k (starts_at W k hc) b i).trans (hE i)
    generalize Host.dynamicSlice S1x4x100 _ _ _ = y at hi ⊢
    pointwise
    exact hi

/-- A trip's scores are one step of the table. -/
theorem trip_scores (hc : W (Proc.devRef .tc main_v19_3) = fun _ => Scf.iv 0#32 1#32 k.val) (E B r : ℕ → EReal)
    (hE : ∀ n : Fin 100, (W (Proc.devRef .tc main_v19_1) : S511x4x100.Idx → EReal) (ix3 k b n) = E n.val)
    (hB : ∀ n : Fin 101, (W (Proc.devRef .tc main_v19_0) : S511x4x101.Idx → EReal) (ix3 k b n) = B n.val)
    (hr : ∀ n : Fin 101, (W (Proc.devRef .tc main_v19_4) : S4x101.Idx → EReal) (ix2 b n) = r n.val)
    (h0 : @Eq EReal ((W (Proc.devRef .tc main_v19_2) : S4x1.Idx → EReal) (ix2 b 0)) 0) (n : Fin 101) :
    (res_main_while0b_v58 W : S4x101.Idx → EReal) (ix2 b n) = step E B r n.val := by
  unfold res_main_while0b_v58
  pointwise
  rw [trip_ahead W k b hc E hE h0 n]
  refine congrArg (fun z => ahead E n.val + Ideal.log z) ?_
  refine running_sum (p := 100) rfl _ _ (by pointwise) (fun l => Ideal.exp (r l + B l - ahead E l)) b (fun i => ?_)
    reduceWindows_S4x101_S4x101_w1s1p0_0_w101s1p100_0 n
  have hi := (row_at _ _ sliceFits_S511x4x101_S1x4x101 k (starts_at W k hc) b i).trans (hB i)
  generalize Host.dynamicSlice S1x4x101 _ _ _ = y at hi ⊢
  pointwise
  rw [trip_ahead W k b hc E hE h0 i, hr i, hi]

/-- A trip writes its scores over row `k` and leaves the other rows. -/
theorem trip_rows (hc : W (Proc.devRef .tc main_v19_3) = fun _ => Scf.iv 0#32 1#32 k.val) (j : Fin 511) (n : Fin 101) :
    (step_main_v19_5 W : S511x4x101.Idx → EReal) (ix3 j b n)
      = if j = k then (res_main_while0b_v58 W : S4x101.Idx → EReal) (ix2 b n)
        else (W (Proc.devRef .tc main_v19_5) : S511x4x101.Idx → EReal) (ix3 j b n) := by
  have hk : S511x4x101.Slices (![k.val, 0, 0] : Fin 3 → ℕ) S1x4x101 := by
    refine ⟨rfl, fun a => ?_⟩
    have := k.isLt
    match a with
    | ⟨0, _⟩ => show k.val + 1 ≤ 511; omega
    | ⟨1, _⟩ => show 0 + 4 ≤ 4; omega
    | ⟨2, _⟩ => show 0 + 101 ≤ 101; omega
  unfold step_main_v19_5
  refine (congrFun (WordCmp.dynamicUpdateSlice_eq_update _ _ _ updateFits_S511x4x101_S1x4x101 _ hk (starts_at W k hc)) _).trans ?_
  pointwise
  by_cases h : j = k
  · rw [if_pos h, dif_pos (by subst h; omega)]
  · rw [if_neg h, dif_neg fun h' => h (Fin.ext (by omega))]

variable (m : (ℓ : Loc nD τ sig) → Buf (Elt Ideal) ℓ) (c : Dev nD)

/-- The scores of the launched arguments, by sample, time and place. -/
abbrev scores (b : Fin 4) : ℕ → ℕ → EReal := table (emit (logits m c) (labels m c) b) (blank (logits m c) b)

/-- The loop leaves the tables it reads as they were. -/
theorem loop_tables (n : ℕ) :
    atK m n c (Proc.devRef .tc main_v19_0) = entryContents preI m c (Proc.devRef .tc main_v19_0)
    ∧ atK m n c (Proc.devRef .tc main_v19_1) = entryContents preI m c (Proc.devRef .tc main_v19_1)
    ∧ atK m n c (Proc.devRef .tc main_v19_2) = entryContents preI m c (Proc.devRef .tc main_v19_2) := by
  induction n with
  | zero => exact ⟨rfl, rfl, rfl⟩
  | succ n ih =>
    obtain ⟨h0, h1, h2⟩ := ih
    have t := trip_agree (atK m n c)
    exact ⟨((t main_v19_0 (by decide)).trans (STEP_main_v19_0 _)).trans h0, ((t main_v19_1 (by decide)).trans (STEP_main_v19_1 _)).trans h1,
      ((t main_v19_2 (by decide)).trans (STEP_main_v19_2 _)).trans h2⟩

/-- Before trip `t` the carried row holds the scores of time `t`, and the rows below `t` of the table those of times 1 to `t`. -/
theorem loop_scores (t : ℕ) (ht : t ≤ 511) :
    (∀ (b : Fin 4) (n : Fin 101), (atK m t c (Proc.devRef .tc main_v19_4) : S4x101.Idx → EReal) (ix2 b n) = scores m c b t n.val)
    ∧ ∀ (j : Fin 511), j.val < t → ∀ (b : Fin 4) (n : Fin 101),
      (atK m t c (Proc.devRef .tc main_v19_5) : S511x4x101.Idx → EReal) (ix3 j b n) = scores m c b (j.val + 1) n.val := by
  induction t with
  | zero => exact ⟨fun b n => entry_scores m c b n, fun j hj => absurd hj (Nat.not_lt_zero _)⟩
  | succ t ih =>
    obtain ⟨hr, hrows⟩ := ih (by omega)
    obtain ⟨h0, h1, h2⟩ := loop_tables m c t
    have hc := atK_ctr m c t
    have e := trip_agree (atK m t c)
    have key (b : Fin 4) (n : Fin 101) : (res_main_while0b_v58 (atK m t c) : S4x101.Idx → EReal) (ix2 b n) = scores m c b (t + 1) n.val :=
      trip_scores (atK m t c) ⟨t, by omega⟩ b hc (emit (logits m c) (labels m c) b (t + 1)) (blank (logits m c) b t) (scores m c b t)
        (fun i => (congrFun h1 _).trans (entry_emit m c ⟨t, by omega⟩ b i)) (fun i => (congrFun h0 _).trans (entry_blank m c ⟨t, by omega⟩ b i))
        (fun i => hr b i) ((congrFun h2 _).trans (entry_zero m c b)) n
    refine ⟨fun b n => (congrFun ((e main_v19_4 (by decide)).trans (STEP_main_v19_4 _)) _).trans (key b n), fun j hj b n =>
      (congrFun ((e main_v19_5 (by decide)).trans (STEP_main_v19_5 _)) _).trans ((trip_rows (atK m t c) ⟨t, by omega⟩ b hc j n).trans ?_)⟩
    split
    · next h => rw [show j.val = t from congrArg Fin.val h]; exact key b n
    · next h => exact hrows j (by have : j.val ≠ t := fun h' => h (Fin.ext h'); omega) b n

end Cert.ReferenceIdeal.Hand

end
-- ==== Proof.V.RefResult.lean ====
/-
The reference's result: after the loop it reads each sample's score in the table and averages; the result is the loss.
-/
module

public import proofs.«01_k».proof.Proof.V.RefLoop

@[expose] public section

set_option maxRecDepth 16384

noncomputable section

namespace Cert.ReferenceIdeal.Hand

open Cert.ReferenceIdeal.Gen Cert.ReferenceIdeal.Value Cert.Maths
open Idealize.ShloMosaic Idealize.ShloMosaic.TcCoe
open Idealize.ShloMosaic.StableHlo

variable (W : Valuation τ sig (Elt Ideal))

/-- The operations after the loop up to the three columns of indices. -/
abbrev toColumns : List (HloOp τ sig (Elt Ideal)) := hostOps0_11.take 30
/-- The operation that joins the columns. -/
abbrev joinColumns : List (HloOp τ sig (Elt Ideal)) := (hostOps0_11.drop 30).take 1
/-- The operations that read the scores and average them. -/
abbrev toMean : List (HloOp τ sig (Elt Ideal)) := hostOps0_11.drop 31

theorem tail_cut : (hostOps0_11 : List (HloOp τ sig (Elt Ideal))) = toColumns ++ (joinColumns ++ toMean) := rfl

/-- A small word is not negative, so its wrap is itself. -/
theorem wrap_small (n : ℕ) (h : n < 2 ^ 31) (a : BitVec 32) :
    Scalar.select (IntOp.cmpi .slt (BitVec.ofNat 32 n) 0#32) a (BitVec.ofNat 32 n) = BitVec.ofNat 32 n :=
  Routing.wrap_of_lt _ _ (by rw [BitVec.toNat_ofNat, Nat.mod_eq_of_lt (by omega)]; exact h)

/-- The whole table: the first time's scores, then the loop's rows. -/
theorem columns_table (t : Fin 512) (b : Fin 4) (n : Fin 101) :
    (after toColumns W (Proc.devRef .tc main_v21) : S512x4x101.Idx → EReal) (ix3 t b n)
      = if h : t.val < 1 then (W (Proc.devRef .tc main_v13) : S4x101.Idx → EReal) (ix2 b n)
        else (W (Proc.devRef .tc main_v19_5) : S511x4x101.Idx → EReal) (ix3 ⟨t.val - 1, by omega⟩ b n) := by
  simp only [toColumns, hostOps0_11, List.take_succ_cons, List.take_zero]
  after_results
  pointwise

/-- The column of times. -/
theorem columns_time (b : Fin 4) (T : ℕ) (hT : T < 512) (h : (W (Proc.devRef .tc main_v0) : IVec S4 32) (ix1 b) = BitVec.ofNat 32 (T + 1)) :
    (after toColumns W (Proc.devRef .tc main_v40) : IVec S4x1 32) (ix2 b 0) = BitVec.ofNat 32 T := by
  simp only [toColumns, hostOps0_11, List.take_succ_cons, List.take_zero]
  after_results
  pointwise
  rw [h, word_pred (by omega), Nat.add_sub_cancel, wrap_small T (by omega)]

/-- The column of samples. -/
theorem columns_sample (b : Fin 4) :
    (after toColumns W (Proc.devRef .tc main_v41) : IVec S4x1 32) (ix2 b 0) = BitVec.ofNat 32 b.val := by
  simp only [toColumns, hostOps0_11, List.take_succ_cons, List.take_zero]
  after_results
  pointwise
  exact wrap_small b.val (by omega) _

/-- The column of places. -/
theorem columns_place (b : Fin 4) (U : ℕ) (hU : U < 101) (h : (W (Proc.devRef .tc main_v1) : IVec S4 32) (ix1 b) = BitVec.ofNat 32 U) :
    (after toColumns W (Proc.devRef .tc main_v42) : IVec S4x1 32) (ix2 b 0) = BitVec.ofNat 32 U := by
  simp only [toColumns, hostOps0_11, List.take_succ_cons, List.take_zero]
  after_results
  pointwise
  rw [h, wrap_small U (by omega)]

/-- The columns side by side. -/
theorem joined (b : Fin 4) :
    (after joinColumns W (Proc.devRef .tc main_v43) : IVec S4x3 32) (ix2 b 0) = (W (Proc.devRef .tc main_v40) : IVec S4x1 32) (ix2 b 0)
    ∧ (after joinColumns W (Proc.devRef .tc main_v43) : IVec S4x3 32) (ix2 b 1) = (W (Proc.devRef .tc main_v41) : IVec S4x1 32) (ix2 b 0)
    ∧ (after joinColumns W (Proc.devRef .tc main_v43) : IVec S4x3 32) (ix2 b 2) = (W (Proc.devRef .tc main_v42) : IVec S4x1 32) (ix2 b 0) := by
  simp only [joinColumns, hostOps0_11, List.drop_succ_cons, List.drop_zero, List.take_succ_cons, List.take_zero]
  refine ⟨?_, ?_, ?_⟩ <;> after_results <;> pointwise

/-- Joining the columns leaves the table. -/
theorem joined_table : after joinColumns W (Proc.devRef .tc main_v21) = W (Proc.devRef .tc main_v21) := by
  simp only [joinColumns, hostOps0_11, List.drop_succ_cons, List.drop_zero, List.take_succ_cons, List.take_zero]
  after_results

/-- Minus the mean of the scores read. -/
theorem mean_apply (s : Fin 4 → EReal)
    (hs : ∀ b : Fin 4, (Host.gather gather_S512x4x101_S4x3_S4_n_012_n_n_012_1_111 (W (Proc.devRef .tc main_v21) : S512x4x101.Idx → EReal)
      (W (Proc.devRef .tc main_v43) : IVec S4x3 32)) (ix1 b) = s b) (i : S1.Idx) :
    (after toMean W (Proc.devRef .tc main_v48) : S1.Idx → EReal) i = -(Ideal.div (∑ b : Fin 4, s b) ((4 : ℝ) : EReal)) := by
  simp only [toMean, hostOps0_11, List.drop_succ_cons, List.drop_zero]
  after_results
  pointwise
  rw [four_word]
  exact congrArg (fun z => -(Ideal.div z ((4 : ℝ) : EReal))) (Finset.sum_congr rfl fun b _ => hs b)

/-- The operations after the loop: minus the mean of the four scores read at each sample's last time and place. -/
theorem tail_apply (W : Valuation τ sig (Elt Ideal)) (T : Fin 4 → Fin 512) (U : Fin 4 → Fin 101) (S : Fin 4 → ℕ → ℕ → EReal)
    (hT : ∀ b : Fin 4, (W (Proc.devRef .tc main_v0) : IVec S4 32) (ix1 b) = BitVec.ofNat 32 ((T b).val + 1))
    (hU : ∀ b : Fin 4, (W (Proc.devRef .tc main_v1) : IVec S4 32) (ix1 b) = BitVec.ofNat 32 (U b).val)
    (h0 : ∀ (b : Fin 4) (n : Fin 101), (W (Proc.devRef .tc main_v13) : S4x101.Idx → EReal) (ix2 b n) = S b 0 n.val)
    (hS : ∀ (j : Fin 511) (b : Fin 4) (n : Fin 101),
      (W (Proc.devRef .tc main_v19_5) : S511x4x101.Idx → EReal) (ix3 j b n) = S b (j.val + 1) n.val) (i : S1.Idx) :
    (after hostOps0_11 W (Proc.devRef .tc main_v48) : S1.Idx → EReal) i
      = -(Ideal.div (∑ b : Fin 4, S b (T b).val (U b).val) ((4 : ℝ) : EReal)) := by
  rw [tail_cut, after_append, after_append]
  refine mean_apply _ (fun b => S b (T b).val (U b).val) (fun b => ?_) i
  obtain ⟨j0, j1, j2⟩ := joined (after toColumns W) b
  rw [joined_table]
  refine (take_score _ _ b (T b) (U b) (j0.trans (columns_time W b _ (T b).isLt (hT b))) (j1.trans (columns_sample W b))
    (j2.trans (columns_place W b _ (U b).isLt (hU b)))).trans ?_
  rw [columns_table]
  split
  · next h => rw [show (T b).val = 0 by omega]; exact h0 b (U b)
  · next h => rw [hS, show (T b).val - 1 + 1 = (T b).val by omega]

variable (m : (ℓ : Loc nD τ sig) → Buf (Elt Ideal) ℓ) (c : Dev nD)

/-- The reference's result is the loss. -/
theorem result_eq : finalContents condOps preI bodyI postI 511 m c (Proc.devRef .tc main_v48)
    = fun _ => loss (logits m c) (labels m c) (lengths m c) (counts m c) := by
  funext i
  simp only [finalContents, postI, afterL_cons, afterL_nil]
  obtain ⟨-, hrows⟩ := loop_scores m c 511 le_rfl
  refine tail_apply (atEnd m c) (fun b => ⟨lastTime (lengths m c) b, lastTime_lt _ b⟩) (fun b => ⟨lastPlace (counts m c) b, lastPlace_lt _ b⟩)
    (scores m c) (fun b => ?_) (fun b => ?_) (fun b n => ?_) (fun j b n => ?_) i
  · rw [atEnd, trips_keep m c main_v0 (by decide +kernel), entry_length]
    have := le_clip (lo := 1) (hi := 512) (by omega) (lengths m c (ix1 b))
    exact congrArg (BitVec.ofNat 32) (by show _ = clip 1 512 (lengths m c (ix1 b)) - 1 + 1; omega)
  · rw [atEnd, trips_keep m c main_v1 (by decide +kernel), entry_count]; rfl
  · rw [atEnd, trips_keep m c main_v13 (by decide +kernel), entry_eq, ← starts_copy, ← entry_eq]; exact entry_scores m c b n
  · exact (congrFun (cond_keeps (atK m 511 c) main_v19_5 (by decide)) _).trans (hrows j j.isLt b n)

end Cert.ReferenceIdeal.Hand

end
-- ==== Proof.V.Pair.lean ====
/-
Both programs, from memories that agree on the arguments, end with the loss as their result.
-/
module

public import proofs.«01_k».proof.Defs
public import proofs.«01_k».proof.Proof.V.Result
public import proofs.«01_k».proof.Proof.V.RefResult

@[expose] public section

set_option maxRecDepth 16384

noncomputable section

open Idealize.ShloMosaic Idealize.ShloMosaic.TcCoe
open Idealize.SL Idealize.SL.Sem

namespace Cert.KernelIdeal.Hand

open Cert.KernelIdeal.Gen Cert.Maths

/-- The kernel ends with the loss as its result and its arguments unchanged. -/
theorem value_main (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12) = (fun _ => loss (logits m c) (labels m c) (lengths m c) (counts m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun _ h c => ⟨(h.1.rest_eq c main_v12 (by decide +kernel)).trans (result_eq m c), h.2.1 c⟩)
    (θ_run_and (run_main m ρ) (frame_main m ρ))

end Cert.KernelIdeal.Hand

namespace Cert.ReferenceIdeal.Hand

open Cert.ReferenceIdeal.Gen Cert.ReferenceIdeal.Value Cert.Maths

/-- The reference ends with the loss as its result and its arguments unchanged. -/
theorem value_main (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v48) = (fun _ => loss (logits m c) (labels m c) (lengths m c) (counts m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ?_) (run_fold m ρ)
  obtain ⟨h0, h1, h2, h3⟩ := final_args m c
  exact ⟨(h c main_v48 rfl).trans (result_eq m c), (h c main_arg0 rfl).trans h0, (h c main_arg1 rfl).trans h1,
    (h c main_arg2 rfl).trans h2, (h c main_arg3 rfl).trans h3⟩

end Cert.ReferenceIdeal.Hand

namespace Cert.Maths

/-- The kernel and the reference compute the same loss. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, Cert.KernelIdeal.Hand.value_main m g, ?_⟩
  refine (θ_run _ _ _).mono (fun r h c => ⟨(h c).1.trans ?_, (h c).2⟩) (Cert.ReferenceIdeal.Hand.value_main m' g')
  obtain ⟨e0, e1, e2, e3⟩ := hagree c
  unfold Cert.ReferenceIdeal.Hand.logits Cert.ReferenceIdeal.Hand.labels Cert.ReferenceIdeal.Hand.lengths Cert.ReferenceIdeal.Hand.counts
  rw [e0, e1, e2, e3]
  rfl

end Cert.Maths

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.K.Data
public import proofs.«01_k».proof.Proof.KI.Data
public import proofs.«01_k».proof.Proof.RI.Frame
public import proofs.«01_k».proof.Proof.V.Pair
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, fun m ρ _ => Cert.Kernel.Hand.frame_main m ρ, fun m ρ _ => Cert.KernelIdeal.Hand.frame_main m ρ,
  fun m ρ _ => Cert.ReferenceIdeal.Hand.frame_main m ρ,
  IdealRules.named_const.statement Cert.KernelIdeal.κ "mask" .f32 0xF149F2CA#32 ⊥ rfl,
  Cert.Maths.algebraic⟩

end Cert.Proof

end
